-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_KernelIdeal [hPre_finite_x_KernelIdeal : Cert.Pre_finite_x_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ReferenceIdeal [hPre_finite_x_ReferenceIdeal : Cert.Pre_finite_x_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_x_KernelIdeal [hKernelIdeal : Cert.KernelIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_x_ReferenceIdeal [hReferenceIdeal : Cert.ReferenceIdeal.Facts] [hPre_finite_x_ReferenceIdeal : Cert.Pre_finite_x_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_x_KernelIdeal [hKernelIdeal : Cert.KernelIdeal.Facts] [hReferenceIdeal : Cert.ReferenceIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 2048]⟩ ⟨2, ![8192, 2048]⟩ (Layout.meshBlock [2, 2] ![[0], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_x_KernelIdeal : Cert.Pre_finite_x_KernelIdeal.Facts) (hPre_finite_x_ReferenceIdeal : Cert.Pre_finite_x_ReferenceIdeal.Facts),
    quiescent_Kernel (hKernel := hKernel)
    ∧ quiescent_KernelIdeal (hKernelIdeal := hKernelIdeal)
    ∧ quiescent_KernelIdeal_pre_finite_x_KernelIdeal (hKernelIdeal := hKernelIdeal) (hPre_finite_x_KernelIdeal := hPre_finite_x_KernelIdeal)
    ∧ quiescent_ReferenceIdeal (hReferenceIdeal := hReferenceIdeal)
    ∧ quiescent_ReferenceIdeal_pre_finite_x_ReferenceIdeal (hReferenceIdeal := hReferenceIdeal) (hPre_finite_x_ReferenceIdeal := hPre_finite_x_ReferenceIdeal)
    ∧ preserves_Kernel_KernelIdeal
    ∧ algebraic_KernelIdeal_ReferenceIdeal_pre_finite_x_KernelIdeal (hKernelIdeal := hKernelIdeal) (hReferenceIdeal := hReferenceIdeal) (hPre_finite_x_KernelIdeal := hPre_finite_x_KernelIdeal)
-- ==== Pre_finite_x_KernelIdeal.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)

variable [Facts]

def fn {F : FTy → Type} [FloatOps F] (main_arg0 : FVec F S4096x2048 .f32) (main_arg1 : FVec F S4096x2048 .f32) (main_arg2 : FVec F S2048 .f32) : IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  main_v2
-- ==== Pre_finite_x_ReferenceIdeal.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)

variable [Facts]

def fn {F : FTy → Type} [FloatOps F] (main_arg0 : FVec F S8192x2048 .f32) (main_arg1 : FVec F S8192x2048 .f32) (main_arg2 : FVec F S2048 .f32) : IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  main_v2
-- ==== Kernel.lean ====
abbrev S4096x2048 : Shape := ⟨2, ![4096, 2048]⟩
abbrev S2048 : Shape := ⟨1, ![2048]⟩
abbrev S_ : Shape := ⟨0, ![]⟩
abbrev S1 : Shape := ⟨1, ![1]⟩
abbrev S2x2048 : Shape := ⟨2, ![2, 2048]⟩
abbrev S512x2048 : Shape := ⟨2, ![512, 2048]⟩
abbrev S3x2x2048 : Shape := ⟨3, ![3, 2, 2048]⟩
abbrev S3 : Shape := ⟨1, ![3]⟩
abbrev S2048x1 : Shape := ⟨2, ![2048, 1]⟩
abbrev S2x512 : Shape := ⟨2, ![2, 512]⟩
abbrev S512x1 : Shape := ⟨2, ![512, 1]⟩
abbrev S1x512 : Shape := ⟨2, ![1, 512]⟩
abbrev S1x2048 : Shape := ⟨2, ![1, 2048]⟩
abbrev S1x2x2048 : Shape := ⟨3, ![1, 2, 2048]⟩

abbrev nBuf : Space → Nat
  | .hbm => 10
  | .vmem => 7
  | .smem => 1
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S2x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S2x2048, .f32⟩
  | .local _ .vmem, ⟨5, _⟩ => ⟨S2x2048, .f32⟩
  | .local _ .vmem, ⟨6, _⟩ => ⟨S3x2x2048, .f32⟩
  | .local _ .smem, ⟨0, _⟩ => ⟨S1, .i32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v6 : Ref sig .tc := ⟨.hbm, 9, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev barrier0 : Sem sig := 0

abbrev nD : Nat := 4
abbrev τ : Topo := Topo.v7x

variable {F : FTy → Type} [FloatOps F]

abbrev grid0 : Pipeline.Grid := ⟨1, ![4], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg0 : BitVec 32 := BitVec.ofNat 32 (i 0).val
  let c3_i32 : BitVec 32 := 3#32
  let v35 : BitVec 1 := Scalar.cmpi .eq arg0 c3_i32
  let v36 : BitVec 32 := Scalar.extui v35
  let c0_i32_14 : BitVec 32 := 0#32
  let v37 : BitVec 1 := Scalar.cmpi .ne v36 c0_i32_14
  v37

def k0_dev1 (d38 : Dev nD) : Nat :=
  let c0_i32_23 : BitVec 32 := 0#32
  let c1_i32_17 : BitVec 32 := 1#32
  let v38 : BitVec 32 := Dev.word d38
  let c2_i32_15 : BitVec 32 := 2#32
  let v39 : BitVec 32 := Scalar.divsi v38 c2_i32_15
  let c2_i32 : BitVec 32 := 2#32
  let v40 : BitVec 32 := Scalar.remsi v39 c2_i32
  let v44 : BitVec 32 := Scalar.subi c1_i32_17 v40
  let c2_i32_22 : BitVec 32 := 2#32
  let v49 : BitVec 32 := Scalar.muli v44 c2_i32_22
  let v50 : BitVec 32 := Scalar.addi c0_i32_23 v49
  let v41 : BitVec 32 := Dev.word d38
  let c1_i32 : BitVec 32 := 1#32
  let v42 : BitVec 32 := Scalar.divsi v41 c1_i32
  let c2_i32_16 : BitVec 32 := 2#32
  let v43 : BitVec 32 := Scalar.remsi v42 c2_i32_16
  let c1_i32_24 : BitVec 32 := 1#32
  let v51 : BitVec 32 := Scalar.muli v43 c1_i32_24
  let v52 : BitVec 32 := Scalar.addi v50 v51
  v52.toNat
def k0_dev2 (d38 : Dev nD) : Nat :=
  let c0_i32_27 : BitVec 32 := 0#32
  let v38 : BitVec 32 := Dev.word d38
  let c2_i32_15 : BitVec 32 := 2#32
  let v39 : BitVec 32 := Scalar.divsi v38 c2_i32_15
  let c2_i32 : BitVec 32 := 2#32
  let v40 : BitVec 32 := Scalar.remsi v39 c2_i32
  let c2_i32_26 : BitVec 32 := 2#32
  let v53 : BitVec 32 := Scalar.muli v40 c2_i32_26
  let v54 : BitVec 32 := Scalar.addi c0_i32_27 v53
  let c1_i32_18 : BitVec 32 := 1#32
  let v41 : BitVec 32 := Dev.word d38
  let c1_i32 : BitVec 32 := 1#32
  let v42 : BitVec 32 := Scalar.divsi v41 c1_i32
  let c2_i32_16 : BitVec 32 := 2#32
  let v43 : BitVec 32 := Scalar.remsi v42 c2_i32_16
  let v45 : BitVec 32 := Scalar.subi c1_i32_18 v43
  let c1_i32_28 : BitVec 32 := 1#32
  let v55 : BitVec 32 := Scalar.muli v45 c1_i32_28
  let v56 : BitVec 32 := Scalar.addi v54 v55
  v56.toNat
def k0_dev3 (d38 : Dev nD) : Nat :=
  let c0_i32_31 : BitVec 32 := 0#32
  let c1_i32_19 : BitVec 32 := 1#32
  let v38 : BitVec 32 := Dev.word d38
  let c2_i32_15 : BitVec 32 := 2#32
  let v39 : BitVec 32 := Scalar.divsi v38 c2_i32_15
  let c2_i32 : BitVec 32 := 2#32
  let v40 : BitVec 32 := Scalar.remsi v39 c2_i32
  let v46 : BitVec 32 := Scalar.subi c1_i32_19 v40
  let c2_i32_30 : BitVec 32 := 2#32
  let v57 : BitVec 32 := Scalar.muli v46 c2_i32_30
  let v58 : BitVec 32 := Scalar.addi c0_i32_31 v57
  let c1_i32_20 : BitVec 32 := 1#32
  let v41 : BitVec 32 := Dev.word d38
  let c1_i32 : BitVec 32 := 1#32
  let v42 : BitVec 32 := Scalar.divsi v41 c1_i32
  let c2_i32_16 : BitVec 32 := 2#32
  let v43 : BitVec 32 := Scalar.remsi v42 c2_i32_16
  let v47 : BitVec 32 := Scalar.subi c1_i32_20 v43
  let c1_i32_32 : BitVec 32 := 1#32
  let v59 : BitVec 32 := Scalar.muli v47 c1_i32_32
  let v60 : BitVec 32 := Scalar.addi v58 v59
  v60.toNat
def k0_dev4 (d38 : Dev nD) : Nat :=
  let c0_i32_38 : BitVec 32 := 0#32
  let c1_i32_17 : BitVec 32 := 1#32
  let v38 : BitVec 32 := Dev.word d38
  let c2_i32_15 : BitVec 32 := 2#32
  let v39 : BitVec 32 := Scalar.divsi v38 c2_i32_15
  let c2_i32 : BitVec 32 := 2#32
  let v40 : BitVec 32 := Scalar.remsi v39 c2_i32
  let v44 : BitVec 32 := Scalar.subi c1_i32_17 v40
  let c2_i32_37 : BitVec 32 := 2#32
  let v61 : BitVec 32 := Scalar.muli v44 c2_i32_37
  let v62 : BitVec 32 := Scalar.addi c0_i32_38 v61
  let v41 : BitVec 32 := Dev.word d38
  let c1_i32 : BitVec 32 := 1#32
  let v42 : BitVec 32 := Scalar.divsi v41 c1_i32
  let c2_i32_16 : BitVec 32 := 2#32
  let v43 : BitVec 32 := Scalar.remsi v42 c2_i32_16
  let c1_i32_39 : BitVec 32 := 1#32
  let v63 : BitVec 32 := Scalar.muli v43 c1_i32_39
  let v64 : BitVec 32 := Scalar.addi v62 v63
  v64.toNat
def k0_dev5 (d38 : Dev nD) : Nat :=
  let c0_i32_46 : BitVec 32 := 0#32
  let v38 : BitVec 32 := Dev.word d38
  let c2_i32_15 : BitVec 32 := 2#32
  let v39 : BitVec 32 := Scalar.divsi v38 c2_i32_15
  let c2_i32 : BitVec 32 := 2#32
  let v40 : BitVec 32 := Scalar.remsi v39 c2_i32
  let c2_i32_45 : BitVec 32 := 2#32
  let v71 : BitVec 32 := Scalar.muli v40 c2_i32_45
  let v72 : BitVec 32 := Scalar.addi c0_i32_46 v71
  let c1_i32_18 : BitVec 32 := 1#32
  let v41 : BitVec 32 := Dev.word d38
  let c1_i32 : BitVec 32 := 1#32
  let v42 : BitVec 32 := Scalar.divsi v41 c1_i32
  let c2_i32_16 : BitVec 32 := 2#32
  let v43 : BitVec 32 := Scalar.remsi v42 c2_i32_16
  let v45 : BitVec 32 := Scalar.subi c1_i32_18 v43
  let c1_i32_47 : BitVec 32 := 1#32
  let v73 : BitVec 32 := Scalar.muli v45 c1_i32_47
  let v74 : BitVec 32 := Scalar.addi v72 v73
  v74.toNat
def k0_dev6 (d38 : Dev nD) : Nat :=
  let c0_i32_54 : BitVec 32 := 0#32
  let c1_i32_19 : BitVec 32 := 1#32
  let v38 : BitVec 32 := Dev.word d38
  let c2_i32_15 : BitVec 32 := 2#32
  let v39 : BitVec 32 := Scalar.divsi v38 c2_i32_15
  let c2_i32 : BitVec 32 := 2#32
  let v40 : BitVec 32 := Scalar.remsi v39 c2_i32
  let v46 : BitVec 32 := Scalar.subi c1_i32_19 v40
  let c2_i32_53 : BitVec 32 := 2#32
  let v81 : BitVec 32 := Scalar.muli v46 c2_i32_53
  let v82 : BitVec 32 := Scalar.addi c0_i32_54 v81
  let c1_i32_20 : BitVec 32 := 1#32
  let v41 : BitVec 32 := Dev.word d38
  let c1_i32 : BitVec 32 := 1#32
  let v42 : BitVec 32 := Scalar.divsi v41 c1_i32
  let c2_i32_16 : BitVec 32 := 2#32
  let v43 : BitVec 32 := Scalar.remsi v42 c2_i32_16
  let v47 : BitVec 32 := Scalar.subi c1_i32_20 v43
  let c1_i32_55 : BitVec 32 := 1#32
  let v83 : BitVec 32 := Scalar.muli v47 c1_i32_55
  let v84 : BitVec 32 := Scalar.addi v82 v83
  v84.toNat
def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2x2048 : Shape := ⟨2, ![2, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .i32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S1x2048, .f32⟩
  | .hbm, ⟨51, _⟩ => ⟨S2x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.Protocol.lean ====
/-
The exchange of partial sums between the four devices: which buffers and semaphores take part, what each
semaphore's payments hand over, and what each device brings to and takes from the exchange.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Launch
public import Idealize.ShloMosaic.Lib.Pipeline.Kit
public import Idealize.ShloMosaic.Lib.ViewIndex
public import Idealize.ShloMosaic.Lib.Tactic

@[expose] public section

noncomputable section

namespace Cert.NormGrad

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

variable (m : (ℓ : Loc nD τ sig) → Buf (Elt F) ℓ)

abbrev 𝒱₀ : Variants := Variants.none

/-! ## The table of block offsets -/

/-- The prefetched table of device `c` holds its position along the second mesh axis. -/
def tab (c : Dev nD) : pre0.Contents (Elt F) := fun
  | 0 => (fun _ => (BitVec.ofNat 32 (c.val % 2)) : (⟨S1, .i32⟩ : BufTy).Contents (Elt F))
  | ⟨_ + 1, h⟩ => absurd h (Nat.not_lt.2 (Nat.le_add_left _ _))

/-- Device `c` reads, at point `i`, block `4 (c % 2) + i` of the rows it holds. -/
theorem ix_x (c : Dev nD) (i : grid0.Coords) :
    cc0_transform_0 (F := F) Facts₀.inb_S1_S1_0 Facts₀.numel1_S1 (tab c) i = ![c.val % 2 * 4 + (i 0).val, 0] := by
  have h (j : Fin 4) : (Scalar.addi (Scalar.muli (BitVec.ofNat 32 (c.val % 2)) 4#32) (BitVec.ofNat 32 j.val)).toNat = c.val % 2 * 4 + j.val := by
    revert c j; decide
  exact congrArg (fun n => ![n, 0]) (h (i 0))

/-- The same of the second input. -/
theorem ix_dy (c : Dev nD) (i : grid0.Coords) :
    cc0_transform_1 (F := F) Facts₀.inb_S1_S1_0 Facts₀.numel1_S1 (tab c) i = ![c.val % 2 * 4 + (i 0).val, 0] :=
  ix_x c i

/-- Every block the table names lies in its array. -/
theorem tab_ok (c : Dev nD) : ok0 (F := F) (tab c) := by
  have hb (i : grid0.Coords) : ∀ a, ((![c.val % 2 * 4 + (i 0).val, 0] : Fin 2 → ℕ) a + 1) * S512x2048.size a ≤ S4096x2048.size a := by
    have hi : (i 0).val < 4 := (i 0).isLt
    intro a
    fin_cases a
    · show (c.val % 2 * 4 + (i 0).val + 1) * 512 ≤ 4096
      omega
    · show (0 + 1) * 2048 ≤ 2048
      decide
  exact ⟨fun i => ⟨by rw [ix_x]; exact hb i, .inl rfl⟩, fun i => ⟨by rw [ix_dy]; exact hb i, .inl rfl⟩⟩

/-- The tables the launch runs at, device by device. -/
def adm (c : Dev nD) : (p : Fin 1) → (pcfgs (F := F) p).Adm := fun _ => ⟨tab c, tab_ok c⟩

/-- The host operations before the kernel leave exactly that table. -/
theorem V1_main_v5 (c : Dev nD) : V1 m c main_v5 = tab (F := F) c 0 := by
  unfold V1 hostOps0
  simp only [StableHlo.after_cons, StableHlo.after_nil]
  simp (disch := decide) only [StableHlo.reshape_result', StableHlo.unary_result', StableHlo.binary_result', StableHlo.nullary_result',
    StableHlo.binary_result_ne', StableHlo.nullary_result_ne', StableHlo.unary_result_ne', StableHlo.reshape_result_ne']
  have h (c : Dev nD) : IntOp.remui .host (IntOp.divui .host (Dev.word c) 1#32) 2#32 = BitVec.ofNat 32 (c.val % 2) := by
    unfold IntOp.remui IntOp.divui
    rw [if_neg (by decide), if_neg (by decide)]
    revert c; decide
  exact funext fun i => h c

/-! ## The three partners of a device -/

/-- Device `c = 2 x + y` of the 2 × 2 mesh exchanges with the device across the first axis, the one across the second,
    and the one across both. -/
def peer (k : Fin 3) (c : Dev nD) : Dev nD :=
  match k with
  | 0 => ⟨(c.val % 2 + 2) - 2 * (c.val / 2), by have := c.isLt; revert this; generalize c.val = v; decide +revert⟩
  | 1 => ⟨(2 * (c.val / 2) + 1) - c.val % 2, by have := c.isLt; revert this; generalize c.val = v; decide +revert⟩
  | 2 => ⟨3 - c.val, by have := c.isLt; revert this; generalize c.val = v; decide +revert⟩

theorem peer_peer (k : Fin 3) (c : Dev nD) : peer k (peer k c) = c := by revert k c; decide
theorem peer_ne (k : Fin 3) (c : Dev nD) : peer k c ≠ c := by revert k c; decide
theorem peer_inj (c : Dev nD) {k l : Fin 3} (h : peer k c = peer l c) : k = l := by revert k l c; decide

/-- A partnership as a permutation of the devices. -/
def swap (k : Fin 3) : Dev nD ≃ Dev nD := ⟨peer k, peer k, peer_peer k, peer_peer k⟩

/-! ## Buffers and semaphores -/

abbrev accM : Memref sig .tc .vmem S2x2048 .f32 := Memref.whole cc0_scratch0
abbrev comM : Memref sig .tc .vmem S3x2x2048 .f32 := Memref.whole cc0_scratch1
abbrev outM : Memref sig .tc .vmem S2x2048 .f32 := Memref.whole cc0_stg2_0

theorem inb_slot (k : Fin 3) : ∀ a, (![k.val, 0, 0] : Fin 3 → ℕ) a + S1x2x2048.size a ≤ S3x2x2048.size a := by revert k; decide

/-- The rectangle of slot `k` of the landing buffer. -/
abbrev slotR (k : Fin 3) : Rect S3x2x2048 := Rect.unit (s := S3x2x2048) ![k.val, 0, 0] S1x2x2048.size (inb_slot k)
/-- Slot `k` of the landing buffer, where the partner `k`'s sums arrive. -/
abbrev slotM (k : Fin 3) : Memref sig .tc .vmem S2x2048 .f32 :=
  (comM.slice (slotR k) (fun _ => rfl)).squeeze S2x2048 Facts₀.squeezes_S1x2x2048_S2x2048

abbrev barS : Sem sig := 0
abbrev sendS (k : Fin 3) : DmaSem sig := ⟨5 + k.val, by revert k; decide⟩
abbrev recvS (k : Fin 3) : DmaSem sig := ⟨8 + k.val, by revert k; decide⟩

abbrev barCell (c : Dev nD) : GSem nD τ sig := ((c : Thread nD τ), .reg barS)
abbrev sendCell (k : Fin 3) (c : Dev nD) : GSem nD τ sig := ((c : Thread nD τ), .dma (sendS k))
abbrev recvCell (k : Fin 3) (c : Dev nD) : GSem nD τ sig := ((c : Thread nD τ), .dma (recvS k))

/-- The credit one copy of a partial sum carries. -/
abbrev N : ℕ := (accM : Memref sig .tc .vmem S2x2048 .f32).view.dmaCredit
theorem N_pos : 0 < N := View.dmaCredit_pos _ (by decide)

theorem slot_set (k : Fin 3) : (slotM k).view.set = (slotR k).set :=
  (View.set_reshape _ _).trans (View.set_slice_whole _ _)

theorem mem_slot (k : Fin 3) (i : S3x2x2048.Idx) : i ∈ (slotR k).set ↔ (i 0).val = k.val := by
  rw [Rect.mem_set_unit]
  constructor
  · intro h
    have h0 := h 0
    simp only [Matrix.cons_val_zero] at h0
    have : S1x2x2048.size 0 = 1 := rfl
    omega
  · intro h a
    have h1 : (i 1).val < 2 := (i 1).isLt
    have h2 : (i 2).val < 2048 := (i 2).isLt
    fin_cases a
    · show k.val ≤ (i 0).val ∧ (i 0).val < k.val + 1; omega
    · show 0 ≤ (i 1).val ∧ (i 1).val < 0 + 2; omega
    · show 0 ≤ (i 2).val ∧ (i 2).val < 0 + 2048; omega

/-- The three slots make up the landing buffer. -/
theorem slots_cover : (Finset.univ : Finset (Fin 3)).biUnion (fun k => (slotR k).set) = Finset.univ :=
  Finset.eq_univ_iff_forall.mpr fun i => Finset.mem_biUnion.mpr ⟨⟨(i 0).val, (i 0).isLt⟩, Finset.mem_univ _, (mem_slot _ i).mpr rfl⟩

theorem slots_disjoint (k l : Fin 3) (h : k ≠ l) : Disjoint (slotR k).set (slotR l).set :=
  Finset.disjoint_left.mpr fun i hk hl => h (Fin.ext (((mem_slot k i).mp hk).symm.trans ((mem_slot l i).mp hl)))

/-! ## What the buffers hold -/

/-- Device `c`'s run of the kernel, its table filled in. -/
abbrev cfgD (c : Dev nD) : Cfg sig Λ₀ := Pipeline.pinD (pcfgs (F := F)) adm c 0

/-- The block of the first input device `c` works on at point `t`. -/
def xblk (c : Dev nD) (t : Fin grid0.N) : Vec F S512x2048 .f32 :=
  (((cfgD (F := F) c).win (0 : Fin 3)).blk t).view.read (Elt F) (m ((c : Thread nD τ).loc main_arg0))
/-- The block of the second input. -/
def dblk (c : Dev nD) (t : Fin grid0.N) : Vec F S512x2048 .f32 :=
  (((cfgD (F := F) c).win (1 : Fin 3)).blk t).view.read (Elt F) (m ((c : Thread nD τ).loc main_arg1))

/-- Device `c`'s running sums after point 0, 1, 2 and 3. -/
def acc0 (c : Dev nD) : Vec F S2x2048 .f32 := k0_pay3 (xblk m c t0_0) (dblk m c t0_0)
def acc1 (c : Dev nD) : Vec F S2x2048 .f32 := k0_pay4 (xblk m c t0_1) (dblk m c t0_1) (acc0 m c)
def acc2 (c : Dev nD) : Vec F S2x2048 .f32 := k0_pay4 (xblk m c t0_2) (dblk m c t0_2) (acc1 m c)
def accF (c : Dev nD) : Vec F S2x2048 .f32 := k0_pay4 (xblk m c t0_3) (dblk m c t0_3) (acc2 m c)

/-- What device `c` writes out: its sums and its three partners', added pairwise. -/
def outAt (c : Dev nD) : Vec F S2x2048 .f32 :=
  addf (addf (accF m c) (accF m (peer 0 c))) (addf (accF m (peer 1 c)) (accF m (peer 2 c)))

/-- Slot `k` of device `c` once its partner's sums have been copied over `fd`. -/
def landed (k : Fin 3) (c : Dev nD) (fd : Buf (Elt F) ((slotM k).view.loc (c : Thread nD τ))) : Buf (Elt F) ((slotM k).view.loc (c : Thread nD τ)) :=
  (slotM k).view.write (Elt F) fd ((accM : Memref sig .tc .vmem S2x2048 .f32).view.read (Elt F) (accF m (peer k c))) Finset.univ

/-- Slot `k` of device `c`'s landing buffer, at contents `f`. -/
def slotPts (k : Fin 3) (c : Dev nD) (f : Buf (Elt F) ((slotM k).view.loc (c : Thread nD τ))) : sProp 𝕄 :=
  (slotM k).view.loc (c : Thread nD τ) ↦[(slotM k).view.set]{fullShare} f
/-- Device `c`'s running sums, at share `q`. -/
def accPts (q : PosShare TreeShare) (c : Dev nD) (f : Buf (Elt F) ((accM : Memref sig .tc .vmem S2x2048 .f32).view.loc (c : Thread nD τ))) : sProp 𝕄 :=
  (accM : Memref sig .tc .vmem S2x2048 .f32).view.loc (c : Thread nD τ) ↦[(accM : Memref sig .tc .vmem S2x2048 .f32).view.set]{q} f

omit [FloatOps F] in
instance slotPts_storable (k : Fin 3) (c : Dev nD) (f) : BI.Storable (upEmb : UEmb _ 𝕄) (slotPts (F := F) k c f) := by unfold slotPts; infer_instance
omit [FloatOps F] in
instance accPts_storable (q) (c : Dev nD) (f) : BI.Storable (upEmb : UEmb _ 𝕄) (accPts (F := F) q c f) := by unfold accPts; infer_instance

/-- The share of the sums each of the three copies reads. -/
def shr : Fin 3 → PosShare TreeShare
  | 0 => fullShare.left
  | 1 => fullShare.right.left
  | 2 => fullShare.right.right

omit [FloatOps F] in
/-- The sums, whole, are the three shares the copies read. -/
theorem acc_split (c : Dev nD) (f : Buf (Elt F) ((c : Thread nD τ).loc cc0_scratch0)) :
    ((((c : Thread nD τ).loc cc0_scratch0) ↦{fullShare} f) : sProp 𝕄)
      ⊣⊢ iprop(accPts (shr 0) c f ∗ accPts (shr 1) c f ∗ accPts (shr 2) c f) := by
  unfold accPts shr
  have e : (accM : Memref sig .tc .vmem S2x2048 .f32).view.set = Finset.univ := View.set_whole _
  rw [e]
  exact (pointsTo_share (PosShare.mem_left_op_right fullShare)).trans (sep_congr_right (pointsTo_share (PosShare.mem_left_op_right fullShare.right)))

theorem bigSep_fin3 {M : Type} [URA M] (Φ : Fin 3 → sProp M) : bigSep Finset.univ Φ = iprop(Φ 0 ∗ Φ 1 ∗ Φ 2) :=
  bigSep_univ_eq_bigSepL [(0 : Fin 3), (1 : Fin 3), (2 : Fin 3)] (by decide) (by decide) Φ

omit [FloatOps F] in
/-- The landing buffer falls into its slots. -/
theorem com_split (c : Dev nD) (f : Buf (Elt F) ((c : Thread nD τ).loc cc0_scratch1)) :
    ((((c : Thread nD τ).loc cc0_scratch1) ↦{fullShare} f) : sProp 𝕄) ⊢ iprop(slotPts 0 c f ∗ slotPts 1 c f ∗ slotPts 2 c f) := by
  have e (k : Fin 3) : slotPts k c f = (((c : Thread nD τ).loc cc0_scratch1) ↦[(slotR k).set]{fullShare} f : sProp 𝕄) := by
    unfold slotPts; rw [slot_set]
  rw [e, e, e, ← slots_cover, pointsTo_biUnion (ℓ := (c : Thread nD τ).loc cc0_scratch1) Finset.univ (fun k => (slotR k).set) (fun k _ l _ h => slots_disjoint k l h), bigSep_fin3]

omit [FloatOps F] in
/-- The slots make the landing buffer up again. -/
theorem com_join (c : Dev nD) (f : Fin 3 → Buf (Elt F) ((c : Thread nD τ).loc cc0_scratch1)) :
    iprop(slotPts 0 c (f 0) ∗ slotPts 1 c (f 1) ∗ slotPts 2 c (f 2)) ⊢ (iprop(∃ g : Buf (Elt F) ((c : Thread nD τ).loc cc0_scratch1), ((c : Thread nD τ).loc cc0_scratch1) ↦{fullShare} g) : sProp 𝕄) := by
  have e (k : Fin 3) (f : Buf (Elt F) ((c : Thread nD τ).loc cc0_scratch1)) :
      slotPts k c f = (((c : Thread nD τ).loc cc0_scratch1) ↦[(slotR k).set]{fullShare} f : sProp 𝕄) := by
    unfold slotPts; rw [slot_set]
  rw [e, e, e, ← bigSep_fin3 (fun k => (((c : Thread nD τ).loc cc0_scratch1) ↦[(slotR k).set]{fullShare} f k : sProp 𝕄))]
  refine (pointsTo_biUnion_join (ℓ := (c : Thread nD τ).loc cc0_scratch1) Finset.univ (fun k => (slotR k).set) f (f 0) (fun k _ l _ h => slots_disjoint k l h)).trans ?_
  rw [slots_cover]
  iintro ⟨%g, -, H⟩; iexists g; iexact H

theorem slot_access (k : Fin 3) : ((comM : Memref sig .tc .vmem S3x2x2048 .f32).access (slotR k) : View sig .tc _ _ _).set ⊆ (slotM k).view.set :=
  Finset.subset_of_eq (View.set_reshape _ _).symm

/-- A load of slot `k` after the partner's sums landed there reads those sums. -/
theorem slot_load (k : Fin 3) (c : Dev nD) (fd) :
    shapeCast S2x2048 (((comM : Memref sig .tc .vmem S3x2x2048 .f32).access (slotR k) : View sig .tc _ _ _).read (Elt F) (landed m k c fd) : Vec F S1x2x2048 .f32)
      Facts₀.shapeCasts_S1x2x2048_S2x2048 = accF m (peer k c) :=
  funext fun x => View.read_write_reshape ((comM : Memref sig .tc .vmem S3x2x2048 .f32).access (slotR k) : View sig .tc _ _ _) _ fd (accF m (peer k c)) x

/-- What the last store writes, from the device's own sums and what landed in the three slots. -/
theorem pay1_landed (c : Dev nD) (f0 f1 f2) :
    k0_pay1 (accF m c)
      (((comM : Memref sig .tc .vmem S3x2x2048 .f32).access (slotR 0) : View sig .tc _ _ _).read (Elt F) (landed m 0 c f0))
      (((comM : Memref sig .tc .vmem S3x2x2048 .f32).access (slotR 1) : View sig .tc _ _ _).read (Elt F) (landed m 1 c f1))
      (((comM : Memref sig .tc .vmem S3x2x2048 .f32).access (slotR 2) : View sig .tc _ _ _).read (Elt F) (landed m 2 c f2)) = outAt m c := by
  unfold k0_pay1 outAt
  dsimp only
  rw [slot_load m 0 c f0, slot_load m 1 c f1, slot_load m 2 c f2]

/-! ## The schedule of payments -/

/-- What the signal of partner `k` hands device `c`: the partner's slot `k`, and that the partner's receive
    semaphore `k` is ready. -/
def barPay (k : Fin 3) (c : Dev nD) : sProp 𝕄 := iprop((∃ f, slotPts k (peer k c) f) ∗ reached ER (recvCell k (peer k c)) 0)
/-- What the completion of the copy from partner `k` hands device `c`: its slot `k` with the partner's sums in it. -/
def recvPay (k : Fin 3) (c : Dev nD) : sProp 𝕄 := iprop(∃ fd, slotPts k c (landed m k c fd))
/-- What the completion of its own copy to partner `k` hands device `c`: the share of its sums that copy read. -/
def sendPay (k : Fin 3) (c : Dev nD) : sProp 𝕄 := accPts (shr k) c (accF m c)

/-- The duties on a semaphore: three signals on the barrier, one completion on each send and receive semaphore. -/
def semDuties : SemLoc sig → Finset (Fin 3)
  | .reg _ => Finset.univ
  | .dma s => if 5 ≤ s.val then {0} else ∅
/-- The units a duty pays. -/
def semAmount : SemLoc sig → ℕ
  | .reg _ => 1
  | .dma _ => N
/-- What a duty on device `c`'s semaphore hands over. -/
def semPay (c : Dev nD) (d : Fin 3) : SemLoc sig → sProp 𝕄
  | .reg _ => barPay d c
  | .dma s =>
    if h : 8 ≤ s.val then recvPay m ⟨s.val - 8, by have : s.val < 11 := s.isLt; omega⟩ c
    else if h : 5 ≤ s.val then sendPay m ⟨s.val - 5, by omega⟩ c
    else iprop(emp)

/-- The payments of the exchange: one round on every semaphore. -/
def Rd : Rounds.Schedule (GSem nD τ sig) (Fin 3) 𝕄 where
  duties g r := if r = 0 ∧ g.1.2 = .tc then semDuties g.2 else ∅
  unitless _ := False
  amount g _ _ := semAmount g.2
  payload g _ d := semPay m g.1.1 d g.2
  amount_pos g _ _ _ := by
    rcases g with ⟨_, _ | _⟩
    · exact Nat.one_pos
    · exact N_pos

instance Rd_storable (g : GSem nD τ sig) (r : ℕ) (d : Fin 3) : BI.Storable (upEmb : UEmb _ 𝕄) ((Rd (F := F) m).payload g r d) := by
  show BI.Storable upEmb (semPay m g.1.1 d g.2)
  unfold semPay barPay recvPay sendPay
  (repeat' split) <;> infer_instance

section Sched
variable (k : Fin 3) (c : Dev nD)

theorem duties_bar : (Rd (F := F) m).duties (barCell c) 0 = Finset.univ := by dsimp only [Rd]; exact if_pos ⟨rfl, rfl⟩
theorem duties_send : (Rd (F := F) m).duties (sendCell k c) 0 = {0} := by
  dsimp only [Rd]; exact (if_pos ⟨rfl, rfl⟩).trans (if_pos (Nat.le_add_right 5 k.val))
theorem duties_recv : (Rd (F := F) m).duties (recvCell k c) 0 = {0} := by
  dsimp only [Rd]; exact (if_pos ⟨rfl, rfl⟩).trans (if_pos (show 5 ≤ 8 + k.val by omega))
theorem duties_later (g : GSem nD τ sig) : ∀ r, 1 ≤ r → (Rd (F := F) m).duties g r = ∅ :=
  fun r hr => by dsimp only [Rd]; exact if_neg fun h => by omega

theorem payload_bar : (Rd (F := F) m).payload (barCell c) 0 k = barPay k c := rfl
theorem payload_send (d : Fin 3) : (Rd (F := F) m).payload (sendCell k c) 0 d = sendPay m k c := by
  show semPay m c d (.dma (sendS k)) = _
  unfold semPay
  dsimp only
  rw [dif_neg (by have := k.isLt; omega), dif_pos (Nat.le_add_right 5 k.val)]
  exact congrArg (fun k => sendPay m k c) (Fin.ext (Nat.add_sub_cancel_left _ _))
theorem payload_recv (d : Fin 3) : (Rd (F := F) m).payload (recvCell k c) 0 d = recvPay m k c := by
  show semPay m c d (.dma (recvS k)) = _
  unfold semPay
  dsimp only
  rw [dif_pos (Nat.le_add_right 8 k.val)]
  exact congrArg (fun k => recvPay m k c) (Fin.ext (Nat.add_sub_cancel_left _ _))

theorem expect_bar : (Rd (F := F) m).expect (barCell c) 0 = 3 := by
  unfold Schedule.expect Schedule.amountOf; rw [duties_bar]; rfl
theorem expect_send : (Rd (F := F) m).expect (sendCell k c) 0 = N := by
  unfold Schedule.expect Schedule.amountOf; rw [duties_send, Finset.sum_singleton]; rfl
theorem expect_recv : (Rd (F := F) m).expect (recvCell k c) 0 = N := by
  unfold Schedule.expect Schedule.amountOf; rw [duties_recv, Finset.sum_singleton]; rfl

theorem rest_bar : bigSep ((Rd (F := F) m).duties (barCell c) 0 \ ∅) (fun d => (Rd (F := F) m).payload (barCell c) 0 d)
    = iprop(barPay 0 c ∗ barPay 1 c ∗ barPay 2 c) := by
  rw [Finset.sdiff_empty, duties_bar, bigSep_fin3]; rfl
theorem rest_send : bigSep ((Rd (F := F) m).duties (sendCell k c) 0 \ ∅) (fun d => (Rd (F := F) m).payload (sendCell k c) 0 d) = sendPay m k c := by
  rw [Finset.sdiff_empty, duties_send, bigSep_singleton, payload_send]
theorem rest_recv : bigSep ((Rd (F := F) m).duties (recvCell k c) 0 \ ∅) (fun d => (Rd (F := F) m).payload (recvCell k c) 0 d) = recvPay m k c := by
  rw [Finset.sdiff_empty, duties_recv, bigSep_singleton, payload_recv]

end Sched

/-! ## What each device owes; the order of the waits -/

/-- The credits device `c` owes its partners' receive semaphores, from partner `k` on. -/
def owedR (c : Dev nD) : CellTallies nD τ sig Unit :=
  tallyAt (recvCell 0 (peer 0 c)) () N + tallyAt (recvCell 1 (peer 1 c)) () N + tallyAt (recvCell 2 (peer 2 c)) () N
/-- At launch device `c` owes each partner a copy's credit and one unit of its barrier. -/
def O₀ (c : Dev nD) : CellTallies nD τ sig Unit :=
  owedR c + tallyAt (barCell (peer 2 c)) () 1 + tallyAt (barCell (peer 1 c)) () 1 + tallyAt (barCell (peer 0 c)) () 1

def L (g : GSem nD τ sig) : Finset Unit := if g.1.2 = .tc then {()} else ∅
def semLv : SemLoc sig → ℕ
  | .reg _ => 1
  | .dma s => if 8 ≤ s.val then 2 else 0
/-- Barrier semaphores come before receive semaphores, staging and send semaphores before both. -/
def lv (g : GSem nD τ sig) (_ : Unit) : ℕ := semLv g.2
theorem L_of_ne (g : GSem nD τ sig) (h : g.1.2 ≠ .tc) : L g = ∅ := if_neg h
theorem L_tc (c : Dev nD) (sm : SemLoc sig) : L ((c : Thread nD τ), sm) = {()} := if_pos rfl
theorem lv_recv (k : Fin 3) (c : Dev nD) (u : Unit) : lv (recvCell k c) u = 2 := if_pos (Nat.le_add_right 8 k.val)

theorem tallyAt_pos {g g' : GSem nD τ sig} {n : ℕ} {u : Unit} (h : 0 < tallyAt g () n g' u) : g' = g := by
  rw [tallyAt_apply] at h
  split at h
  · next hg => exact hg.1
  · exact absurd h (Nat.lt_irrefl 0)

theorem owedR_pos {c : Dev nD} {g : GSem nD τ sig} {u : Unit} (h : 0 < owedR c g u) : ∃ k, g = recvCell k (peer k c) := by
  unfold owedR at h
  simp only [Pi.add_apply, Finsupp.add_apply, Nat.add_pos_iff_pos_or_pos] at h
  rcases h with (h | h) | h
  · exact ⟨0, tallyAt_pos h⟩
  · exact ⟨1, tallyAt_pos h⟩
  · exact ⟨2, tallyAt_pos h⟩

theorem O₀_pos {c : Dev nD} {g : GSem nD τ sig} {u : Unit} (h : 0 < O₀ c g u) : ∃ k, g = recvCell k (peer k c) ∨ g = barCell (peer k c) := by
  unfold O₀ at h
  simp only [Pi.add_apply, Finsupp.add_apply, Nat.add_pos_iff_pos_or_pos] at h
  rcases h with ((h | h) | h) | h
  · obtain ⟨k, hk⟩ := owedR_pos h; exact ⟨k, .inl hk⟩
  · exact ⟨2, .inr (tallyAt_pos h)⟩
  · exact ⟨1, .inr (tallyAt_pos h)⟩
  · exact ⟨0, .inr (tallyAt_pos h)⟩

omit [FloatOps F] in
/-- Any wait on a staging or send semaphore is in order, whatever of `O₀` the device owes. -/
theorem mayWait_stage (c : Dev nD) (q : DmaSem sig) (hq : q.val < 8) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨k, rfl | rfl⟩ := O₀_pos hg <;> exact Finset.mem_singleton_self _)
      (fun p hp => by rw [Finset.mem_singleton.mp hp]; exact Nat.le_of_eq (if_neg (by omega)))
      (fun g u hg => by
        obtain ⟨k, rfl | rfl⟩ := O₀_pos hg
        · rw [lv_recv]; decide
        · exact Nat.one_pos)
  · rw [MayWait_zero]; iintro -; iempintro

omit [FloatOps F] in
/-- The wait on the barrier is in order while the copies are still owed. -/
theorem mayWait_bar (c : Dev nD) : (levAts L lv : sProp 𝕄) ⊢ MayWait (c : Thread nD τ) (.reg barS) () (owedR c) :=
  MayOwe.of_cut (L := L) (lev := lv) 1 (fun p hp => by rw [Finset.mem_singleton.mp hp, L_tc]; exact Finset.mem_singleton_self _)
    (fun g u hg => by obtain ⟨k, rfl⟩ := owedR_pos hg; exact Finset.mem_singleton_self _)
    (fun p hp => by rw [Finset.mem_singleton.mp hp]; exact Nat.le_refl 1)
    (fun g u hg => by obtain ⟨k, rfl⟩ := owedR_pos hg; rw [lv_recv]; decide)

/-! ## The cells of the launch, and what each device holds of them -/

/-- The six scoped semaphores of the exchange. -/
abbrev osem : Fin 3 ⊕ Fin 3 → SemLoc sig
  | .inl k => .dma (sendS k)
  | .inr k => .dma (recvS k)
theorem osem_inj : Function.Injective osem := by decide
theorem osem_ne_bar : ∀ k, osem k ≠ .reg barS := by decide

def barEmb : Dev nD ↪ GSem nD τ sig := ⟨fun c => barCell c, fun _ _ h => congrArg (fun g : GSem nD τ sig => g.1.1) h⟩
def scEmb : Dev nD × (Fin 3 ⊕ Fin 3) ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev scCells : Finset (GSem nD τ sig) := Finset.univ.map scEmb

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem bar_mem (c : Dev nD) : barCell c ∈ (barCells ∪ scCells : Finset (GSem nD τ sig)) :=
  Finset.mem_union_left _ (Finset.mem_map_of_mem barEmb (Finset.mem_univ c))
theorem send_mem (k : Fin 3) (c : Dev nD) : sendCell k c ∈ (barCells ∪ scCells : Finset (GSem nD τ sig)) :=
  Finset.mem_union_right _ (Finset.mem_map_of_mem scEmb (Finset.mem_univ (c, Sum.inl k)))
theorem recv_mem (k : Fin 3) (c : Dev nD) : recvCell k c ∈ (barCells ∪ scCells : Finset (GSem nD τ sig)) :=
  Finset.mem_union_right _ (Finset.mem_map_of_mem scEmb (Finset.mem_univ (c, Sum.inr k)))

/-- What every device may consult: the invariants of all cells, under one map of names, and that every barrier
    is at its first round. -/
def records (K : GSem nD τ sig → ℕ) : sProp 𝕄 :=
  iprop((bigSep (barCells ∪ scCells) fun g => cellInv ER (Rd m) (K g) g) ∗ bigSep barCells fun g => reached ER g 0)

instance records_persistent (K : GSem nD τ sig → ℕ) : BI.Persistent (records m K) := by unfold records; infer_instance

theorem inv_of (K : GSem nD τ sig → ℕ) {g : GSem nD τ sig} (hg : g ∈ (barCells ∪ scCells : Finset (GSem nD τ sig))) :
    records m K ⊢ cellInv ER (Rd m) (K g) g := by
  have h : (bigSep (barCells ∪ scCells) fun g => (cellInv ER (Rd m) (K g) g : sProp 𝕄)) ⊢ cellInv ER (Rd m) (K g) g := bigSep_elim hg
  unfold records
  iintro ⟨#HI, -⟩
  iapply h; iexact HI

theorem reached_of (K : GSem nD τ sig → ℕ) (c : Dev nD) : records m K ⊢ reached ER (barCell c) 0 := by
  have h : (bigSep barCells fun g => (reached ER g 0 : sProp 𝕄)) ⊢ reached ER (barCell c) 0 := bigSep_elim (Finset.mem_map_of_mem barEmb (Finset.mem_univ c))
  unfold records
  iintro ⟨-, #HR⟩
  iapply h; iexact HR

/-- The tokens of the three payments device `c` makes toward partner `k`: the signal, the arrival and the departure of
    the copy. -/
def payToks (k : Fin 3) (c : Dev nD) : sProp 𝕄 :=
  iprop(dutyTok ER (barCell (peer k c)) 0 k ∗ dutyTok ER (recvCell k (peer k c)) 0 0 ∗ dutyTok ER (sendCell k c) 0 0)

/-- What device `c` holds of the exchange from launch to the kernel's start, its scoped semaphores still closed. -/
def linear (c : Dev nD) : sProp 𝕄 :=
  iprop(atPos ER (barCell c) 0 ∅ 0 ∗ (bigSep Finset.univ fun k => openTok ER ((c : Thread nD τ), osem k)) ∗ bigSep Finset.univ fun k => payToks k c)

/-- What it holds once they are open: its positions on its own cells, and its tokens. -/
def opened (c : Dev nD) : sProp 𝕄 :=
  iprop(atPos ER (barCell c) 0 ∅ 0
    ∗ (bigSep Finset.univ fun k : Fin 3 => iprop(atPos ER (sendCell k c) 0 ∅ 0 ∗ reached ER (sendCell k c) 0 ∗ atPos ER (recvCell k c) 0 ∅ 0 ∗ reached ER (recvCell k c) 0))
    ∗ bigSep Finset.univ fun k => payToks k c)

/-- The credits device `c` waits with: three units of its barrier, a copy's credit on each receive semaphore. -/
def waits (c : Dev nD) : sProp 𝕄 :=
  iprop(cred (tallyAt (barCell c) () 3) ∗ bigSep Finset.univ fun k : Fin 3 => cred (tallyAt (recvCell k c) () N))

end Cert.NormGrad

end
-- ==== Proof.Body.lean ====
/-
One point of the kernel on one device: the accumulation every point makes, and at the last point the exchange
of the partial sums.
-/
module

public import proofs.«01_k».proof.Proof.Protocol
public import Idealize.ShloMosaic.Lib.Pipeline.Value

@[expose] public section

noncomputable section

namespace Cert.NormGrad

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Loads and stores of whole buffers -/

abbrev rIn : Rect S512x2048 := Rect.unit (s := S512x2048) ![0, 0] S512x2048.size Facts₀.inb_S512x2048_S512x2048_0_0
abbrev rSum : Rect S2x2048 := Rect.unit (s := S2x2048) ![0, 0] S2x2048.size Facts₀.inb_S2x2048_S2x2048_0_0

omit [FloatOps F] in
theorem hz : (![0, 0] : Fin 2 → Nat) = fun _ => 0 := funext fun a => by fin_cases a <;> rfl

omit [FloatOps F] in
/-- A load of a whole input window reads what the window holds. -/
theorem read_in (w : Memref sig .tc .vmem S512x2048 .f32) (f : w.view.ty.Contents (Elt F)) :
    w.view.readAt (Elt F) rIn.toLoadRect f = w.view.read (Elt F) f :=
  Idealize.ShloMosaic.View.ld_unit_zero (S := S512x2048) hz _ (w.view.read (Elt F) f)
omit [FloatOps F] in
theorem read_acc (f : (cc0_scratch0 : Ref sig .tc).ty.Contents (Elt F)) : (accM : Memref sig .tc .vmem S2x2048 .f32).view.readAt (Elt F) rSum.toLoadRect f = f :=
  Memref.readAt_unit_zero (Elt F) cc0_scratch0 hz _ f
omit [FloatOps F] in
theorem write_acc (f w : (cc0_scratch0 : Ref sig .tc).ty.Contents (Elt F)) :
    ((accM : Memref sig .tc .vmem S2x2048 .f32).access rSum : View sig .tc _ _ _).write (Elt F) f w Finset.univ = w :=
  Memref.write_access_unit_zero_univ (Elt F) cc0_scratch0 hz _ f w
omit [FloatOps F] in
theorem write_out (f w : (cc0_stg2_0 : Ref sig .tc).ty.Contents (Elt F)) :
    ((outM : Memref sig .tc .vmem S2x2048 .f32).access rSum : View sig .tc _ _ _).write (Elt F) f w Finset.univ = w :=
  Memref.write_access_unit_zero_univ (Elt F) cc0_stg2_0 hz _ f w

/-! ## The accumulation -/

/-- The running sums, whole, at contents `f`. -/
abbrev accAll (c : Dev nD) (f : Vec F S2x2048 .f32) : sProp 𝕄 :=
  ((c : Thread nD τ).loc cc0_scratch0) ↦{fullShare} (f : Buf (Elt F) ((c : Thread nD τ).loc cc0_scratch0))
/-- The landing buffer, whole, at some contents. -/
abbrev comAny (c : Dev nD) : sProp 𝕄 :=
  iprop(∃ f : Buf (Elt F) ((c : Thread nD τ).loc cc0_scratch1), ((c : Thread nD τ).loc cc0_scratch1) ↦{fullShare} f)

theorem first_cond : ∀ j : Fin 4, (Scalar.cmpi .ne (Scalar.extui (Scalar.cmpi .eq (BitVec.ofNat 32 j.val) 0#32) : BitVec 32) 0#32 = 1#1) ↔ j.val = 0 := by decide
theorem later_cond : ∀ j : Fin 4, (Scalar.cmpi .ne (Scalar.extui (Scalar.cmpi .ne (BitVec.ofNat 32 j.val) 0#32) : BitVec 32) 0#32 = 1#1) ↔ j.val ≠ 0 := by decide

/-- The first point sets the sums to its block's. -/
theorem wp_acc_first (c : Dev nD) (i : grid0.Coords) (hi : (i 0).val = 0)
    (arg1 : Memref sig .tc .smem S1 .i32) (h1) (arg2 arg3 : Memref sig .tc .vmem S512x2048 .f32) (h2 h3) (arg4 : Memref sig .tc .vmem S2x2048 .f32) (h4)
    (X D : Vec F S512x2048 .f32) (Kt : PUnit → sProp 𝕄) :
    iprop(owns (c : Thread nD τ) arg2 fullShare X ∗ owns (c : Thread nD τ) arg3 fullShare D ∗ (∃ f, accAll c f)
        ∗ ((owns (c : Thread nD τ) arg2 fullShare X ∗ owns (c : Thread nD τ) arg3 fullShare D ∗ accAll c (k0_pay3 X D)) -∗ Kt ⟨⟩))
      ⊢ wp frame (wpE (defs₀ (F := F)) 𝒱₀ c none) Set.univ
          (k0_part4 i arg1 h1 arg2 h2 arg3 h3 arg4 h4 (Memref.whole cc0_scratch0) (Memref.isWhole_whole _) (Memref.whole cc0_scratch1) (Memref.isWhole_whole _) cc0_scratch2 cc0_scratch3) Kt := by
  rw [k0_part4_eq_skeleton]; unfold k0_part4_skel owns
  dsimp only
  simp only [dif_pos ((first_cond (i 0)).mpr hi), dif_neg (fun h => (later_cond (i 0)).mp h hi), Prog.lift, Prog.bind_op, Prog.bind_ret, Prog.pure_eq_ret]
  iintro ⟨⟨%f2, %e2, H2⟩, ⟨%f3, %e3, H3⟩, ⟨%f, Ha⟩, Hk⟩
  iapply (wp_load 𝒱₀ (c : Thread nD τ) none Set.univ (m := arg2) (View.setOn_subset_set _ _)) $$ H2; iintro H2
  iapply (wp_load 𝒱₀ (c : Thread nD τ) none Set.univ (m := arg3) (View.setOn_subset_set _ _)) $$ H3; iintro H3
  iapply (wp_load 𝒱₀ (c : Thread nD τ) none Set.univ (m := accM) (Finset.subset_univ _)) $$ Ha; iintro Ha
  iapply (wp_store 𝒱₀ (c : Thread nD τ) none Set.univ (m := accM) (r := rSum) (Mk := Finset.univ) (Finset.subset_univ _)) $$ Ha; iintro Ha
  rw [write_acc, read_in, read_in, e2, e3, wp_ret]; imodintro
  iapply Hk
  isplitl [H2]
  · iexists f2; isplitr; · ipureintro; exact e2
    iexact H2
  isplitl [H3]
  · iexists f3; isplitr; · ipureintro; exact e3
    iexact H3
  iexact Ha

/-- A later point adds its block's to the sums. -/
theorem wp_acc_later (c : Dev nD) (i : grid0.Coords) (hi : (i 0).val ≠ 0)
    (arg1 : Memref sig .tc .smem S1 .i32) (h1) (arg2 arg3 : Memref sig .tc .vmem S512x2048 .f32) (h2 h3) (arg4 : Memref sig .tc .vmem S2x2048 .f32) (h4)
    (X D : Vec F S512x2048 .f32) (A : Vec F S2x2048 .f32) (Kt : PUnit → sProp 𝕄) :
    iprop(owns (c : Thread nD τ) arg2 fullShare X ∗ owns (c : Thread nD τ) arg3 fullShare D ∗ accAll c A
        ∗ ((owns (c : Thread nD τ) arg2 fullShare X ∗ owns (c : Thread nD τ) arg3 fullShare D ∗ accAll c (k0_pay4 X D A)) -∗ Kt ⟨⟩))
      ⊢ wp frame (wpE (defs₀ (F := F)) 𝒱₀ c none) Set.univ
          (k0_part4 i arg1 h1 arg2 h2 arg3 h3 arg4 h4 (Memref.whole cc0_scratch0) (Memref.isWhole_whole _) (Memref.whole cc0_scratch1) (Memref.isWhole_whole _) cc0_scratch2 cc0_scratch3) Kt := by
  rw [k0_part4_eq_skeleton]; unfold k0_part4_skel owns
  dsimp only
  simp only [dif_neg (fun h => hi ((first_cond (i 0)).mp h)), dif_pos ((later_cond (i 0)).mpr hi), Prog.lift, Prog.bind_op, Prog.bind_ret, Prog.pure_eq_ret]
  iintro ⟨⟨%f2, %e2, H2⟩, ⟨%f3, %e3, H3⟩, Ha, Hk⟩
  iapply (wp_load 𝒱₀ (c : Thread nD τ) none Set.univ (m := arg2) (View.setOn_subset_set _ _)) $$ H2; iintro H2
  iapply (wp_load 𝒱₀ (c : Thread nD τ) none Set.univ (m := arg3) (View.setOn_subset_set _ _)) $$ H3; iintro H3
  iapply (wp_load 𝒱₀ (c : Thread nD τ) none Set.univ (m := accM) (Finset.subset_univ _)) $$ Ha; iintro Ha
  iapply (wp_load 𝒱₀ (c : Thread nD τ) none Set.univ (m := accM) (Finset.subset_univ _)) $$ Ha; iintro Ha
  iapply (wp_store 𝒱₀ (c : Thread nD τ) none Set.univ (m := accM) (r := rSum) (Mk := Finset.univ) (Finset.subset_univ _)) $$ Ha; iintro Ha
  rw [write_acc, read_in, read_in, read_acc, e2, e3, wp_ret]; imodintro
  iapply Hk
  isplitl [H2]
  · iexists f2; isplitr; · ipureintro; exact e2
    iexact H2
  isplitl [H3]
  · iexists f3; isplitr; · ipureintro; exact e3
    iexact H3
  iexact Ha

omit [FloatOps F] in
/-- Owning a whole buffer is holding all its elements. -/
theorem owns_out (c : Dev nD) (X : Vec F S2x2048 .f32) :
    (owns (c : Thread nD τ) outM fullShare X : sProp 𝕄)
      = iprop(∃ f : Buf (Elt F) ((c : Thread nD τ).loc cc0_stg2_0), ⌜f = X⌝ ∗ (((c : Thread nD τ).loc cc0_stg2_0) ↦{fullShare} f)) := by
  unfold owns; simp only [Memref.view_whole, View.read_whole, View.set_whole]

theorem dev1_eq (c : Dev nD) (h) : (⟨k0_dev1 c, h⟩ : Dev nD) = peer 0 c := Fin.ext (k0_dev1_eq c)
theorem dev2_eq (c : Dev nD) (h) : (⟨k0_dev2 c, h⟩ : Dev nD) = peer 1 c := Fin.ext (k0_dev2_eq c)
theorem dev3_eq (c : Dev nD) (h) : (⟨k0_dev3 c, h⟩ : Dev nD) = peer 2 c := Fin.ext ((k0_dev3_eq c).trans (by revert c; decide))
theorem dev4_eq (c : Dev nD) (h) : (⟨k0_dev4 c, h⟩ : Dev nD) = peer 0 c := Fin.ext (k0_dev4_eq c)
theorem dev5_eq (c : Dev nD) (h) : (⟨k0_dev5 c, h⟩ : Dev nD) = peer 1 c := Fin.ext (k0_dev5_eq c)
theorem dev6_eq (c : Dev nD) (h) : (⟨k0_dev6 c, h⟩ : Dev nD) = peer 2 c := Fin.ext ((k0_dev6_eq c).trans (by revert c; decide))

/-! ## The steps of the exchange, each for any partner -/

section Steps
variable (K : GSem nD τ sig → ℕ) (k : Fin 3) (c : Dev nD)

/-- The signal to partner `k`: it hands over the slot the partner will write. -/
theorem step_signal {n : ℕ} (hn : n = 1) (f) (O O' : CellTallies nD τ sig Unit) (hO : O' = O + tallyAt (barCell (peer k c)) () 1) (W : Waits sig Unit)
    {α : Type} (kk : PUnit → Prog (TpuEff nD τ sig (Elt F) Λ₀ .tc) α) (Q : α → sProp 𝕄) :
    iprop(records m K ∗ owes (c : Thread nD τ) O' W ∗ dutyTok ER (barCell (peer k c)) 0 k ∗ slotPts k c f ∗ reached ER (recvCell k c) 0)
      ⊢ iprop((owes (c : Thread nD τ) O W -∗ wp frame (wpE (defs₀ (F := F)) 𝒱₀ c none) Set.univ (kk ⟨⟩) Q)
        -∗ wp frame (wpE (defs₀ (F := F)) 𝒱₀ c none) Set.univ (.op (.semSignal (peer k c : Thread nD τ) barS n) kk) Q) := by
  subst hn
  iintro ⟨#HI, HO, Ht, Hs, Hr⟩ Hk
  iapply (Rounds.wp_signal 𝒱₀ ER (Rd m) (c : Thread nD τ) none (dst := (peer k c : Thread nD τ)) (sem := barS) (r := 0) (d := k) (κ := K (barCell (peer k c)))
      (by rw [duties_bar]; exact Finset.mem_univ _) rfl () O hO) $$ [HO Ht Hs Hr]
  · isplitr; · iapply (inv_of m K (bar_mem (peer k c))); iexact HI
    isplitl [HO]; · iexact HO
    isplitl [Ht]; · iexact Ht
    isplitl [Hs Hr]
    · rw [payload_bar]; unfold barPay; rw [peer_peer]
      isplitl [Hs]; · iexists f; iexact Hs
      iexact Hr
    · iapply (reached_of m K (peer k c)); iexact HI
  iexact Hk

/-- The copy of the device's sums to partner `k`. -/
theorem step_send (n : Dev nD) (hn : n = peer k c) (fd) (O O' : CellTallies nD τ sig Unit) (hO : O' = O + tallyAt (recvCell k (peer k c)) () N) (W : Waits sig Unit)
    {hsc} {hsrc} {hdst} {hsem} {α : Type} (kk : PUnit → Prog (TpuEff nD τ sig (Elt F) Λ₀ .tc) α) (Q : α → sProp 𝕄) :
    iprop(records m K ∗ accPts (shr k) c (accF m c) ∗ slotPts k (peer k c) fd ∗ owes (c : Thread nD τ) O' W
        ∗ dutyTok ER (sendCell k c) 0 0 ∗ reached ER (sendCell k c) 0 ∗ dutyTok ER (recvCell k (peer k c)) 0 0 ∗ reached ER (recvCell k (peer k c)) 0)
      ⊢ iprop(((cred (tallyAt (sendCell k c) () N) ∗ owes (c : Thread nD τ) O W) -∗ wp frame (wpE (defs₀ (F := F)) 𝒱₀ c none) Set.univ (kk ⟨⟩) Q)
        -∗ wp frame (wpE (defs₀ (F := F)) 𝒱₀ c none) Set.univ
          (.op (.enqueueDma accM (.remote (n : Thread nD τ) (slotM k) (.dma (sendS k)) hsc) (.dma (recvS k)) hsrc hdst hsem) kk) Q) := by
  subst hn
  iintro ⟨#HI, Ha, Hs, HO, Ht1, Hr1, Ht2, Hr2⟩ Hk
  iapply (Rounds.wp_send_pointsTo 𝒱₀ ER (Rd m) (c : Thread nD τ) none (c' := (peer k c : Thread nD τ)) (src := accM) (dst := slotM k)
      (sS := .dma (sendS k)) (sem := .dma (recvS k)) (q := shr k) (fs := accF m c) (fd := fd) (κ₁ := K (sendCell k c)) (κ₂ := K (recvCell k (peer k c)))
      (r₁ := 0) (r₂ := 0) (d₁ := 0) (d₂ := 0)
      (by rw [duties_send]; exact Finset.mem_singleton_self _) (by rw [duties_recv]; exact Finset.mem_singleton_self _) () () N rfl rfl rfl O hO (W := W)
      (by rw [payload_send]; exact .rfl)
      (by rw [payload_recv]; unfold recvPay landed slotPts; rw [peer_peer]; iintro H; iexists fd; iexact H)) $$ [Ha Hs HO Ht1 Hr1 Ht2 Hr2]
  · isplitr; · iapply (inv_of m K (send_mem k c)); iexact HI
    isplitr; · iapply (inv_of m K (recv_mem k (peer k c))); iexact HI
    isplitl [Ha]; · unfold accPts; iexact Ha
    isplitl [Hs]; · unfold slotPts; iexact Hs
    isplitl [HO]; · iexact HO
    isplitl [Ht1]; · iexact Ht1
    isplitl [Hr1]; · iexact Hr1
    isplitl [Ht2]; · iexact Ht2
    iexact Hr2
  iexact Hk

/-- The wait for all three partners' signals: it brings the slots the device will write on them. -/
theorem step_bar {n : ℕ} (hn : n = 3) (W : Waits sig Unit) {α : Type} (kk : PUnit → Prog (TpuEff nD τ sig (Elt F) Λ₀ .tc) α) (Q : α → sProp 𝕄) :
    iprop(records m K ∗ levAts L lv ∗ cred (tallyAt (barCell c) () 3) ∗ owes (c : Thread nD τ) (owedR c) W ∗ atPos ER (barCell c) 0 ∅ 0)
      ⊢ iprop(((owes (c : Thread nD τ) (owedR c) (insert (.reg barS, ()) W) ∗ atPos ER (barCell c) 1 ∅ 0 ∗ barPay 0 c ∗ barPay 1 c ∗ barPay 2 c)
          -∗ wp frame (wpE (defs₀ (F := F)) 𝒱₀ c none) Set.univ (kk ⟨⟩) Q)
        -∗ wp frame (wpE (defs₀ (F := F)) 𝒱₀ c none) Set.univ (.op (.semWait barS n) kk) Q) := by
  subst hn
  iintro ⟨#HI, #Hl, Hc, HO, Hat⟩ Hk
  iapply (Rounds.wp_wait_rest_token 𝒱₀ ER (Rd m) (c : Thread nD τ) none (κ := K (barCell c))
      (wpE_semWait_eq 𝒱₀ (c : Thread nD τ) none Set.univ) (Set.mem_univ _) () (O := owedR c) (W := W) (R := 0) (m := 0) (T := ∅)
      (by rw [expect_bar])) $$ [Hc HO Hat]
  · isplitr; · iapply (inv_of m K (bar_mem c)); iexact HI
    isplitl [Hc]; · iexact Hc
    isplitl [HO]; · iexact HO
    isplitr; · iapply (mayWait_bar c); iexact Hl
    iexact Hat
  iintro ⟨HO, Hat, -, Hp⟩
  ihave Hp := (Entails.of_eq (rest_bar m c)) $$ Hp
  iapply Hk
  isplitl [HO]; · iexact HO
  isplitl [Hat]; · iexact Hat
  iexact Hp

/-- The wait for the departure of the copy to partner `k`: it brings the share of the sums back. -/
theorem step_sent {src : Memref sig .tc .vmem S2x2048 .f32} {hs hd} (W : Waits sig Unit) {α : Type} (kk : PUnit → Prog (TpuEff nD τ sig (Elt F) Λ₀ .tc) α) (Q : α → sProp 𝕄) :
    iprop(records m K ∗ cred (tallyAt (sendCell k c) () N) ∗ owes (c : Thread nD τ) 0 W ∗ atPos ER (sendCell k c) 0 ∅ 0)
      ⊢ iprop(((owes (c : Thread nD τ) 0 (insert (.dma (sendS k), ()) W) ∗ atPos ER (sendCell k c) 1 ∅ 0 ∗ accPts (shr k) c (accF m c))
          -∗ wp frame (wpE (defs₀ (F := F)) 𝒱₀ c none) Set.univ (kk ⟨⟩) Q)
        -∗ wp frame (wpE (defs₀ (F := F)) 𝒱₀ c none) Set.univ (.op (.waitDma2 (sendS k) src accM hs hd) kk) Q) := by
  iintro ⟨#HI, Hc, HO, Hat⟩ Hk
  iapply (Rounds.wp_wait_rest_token 𝒱₀ ER (Rd m) (c : Thread nD τ) none (κ := K (sendCell k c))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_of m K (send_mem k c)); iexact HI
    isplitl [Hc]; · iexact Hc
    isplitl [HO]; · iexact HO
    isplitr; · rw [MayWait_zero]; iempintro
    iexact Hat
  iintro ⟨HO, Hat, -, Hp⟩
  ihave Hp := (Entails.of_eq ((rest_send m k c).trans (by unfold sendPay; rfl))) $$ Hp
  iapply Hk
  isplitl [HO]; · iexact HO
  isplitl [Hat]; · iexact Hat
  iexact Hp

/-- The wait for partner `k`'s sums: it brings the slot they landed in. -/
theorem step_landed {src : Memref sig .tc .vmem S2x2048 .f32} {hs hd} (W : Waits sig Unit) {α : Type} (kk : PUnit → Prog (TpuEff nD τ sig (Elt F) Λ₀ .tc) α) (Q : α → sProp 𝕄) :
    iprop(records m K ∗ cred (tallyAt (recvCell k c) () N) ∗ owes (c : Thread nD τ) 0 W ∗ atPos ER (recvCell k c) 0 ∅ 0)
      ⊢ iprop(((owes (c : Thread nD τ) 0 (insert (.dma (recvS k), ()) W) ∗ atPos ER (recvCell k c) 1 ∅ 0 ∗ recvPay m k c)
          -∗ wp frame (wpE (defs₀ (F := F)) 𝒱₀ c none) Set.univ (kk ⟨⟩) Q)
        -∗ wp frame (wpE (defs₀ (F := F)) 𝒱₀ c none) Set.univ (.op (.waitDma2 (recvS k) src (slotM k) hs hd) kk) Q) := by
  iintro ⟨#HI, Hc, HO, Hat⟩ Hk
  iapply (Rounds.wp_wait_rest_token 𝒱₀ ER (Rd m) (c : Thread nD τ) none (κ := K (recvCell k c))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_of m K (recv_mem k c)); iexact HI
    isplitl [Hc]; · iexact Hc
    isplitl [HO]; · iexact HO
    isplitr; · rw [MayWait_zero]; iempintro
    iexact Hat
  iintro ⟨HO, Hat, -, Hp⟩
  ihave Hp := (Entails.of_eq (rest_recv m k c)) $$ Hp
  iapply Hk
  isplitl [HO]; · iexact HO
  isplitl [Hat]; · iexact Hat
  iexact Hp

/-- After its round a cell is closed: its semaphore is at zero. -/
theorem step_close {g : GSem nD τ sig} (hg : g ∈ (barCells ∪ scCells : Finset (GSem nD τ sig))) :
    iprop(records m K ∗ atPos ER g 1 ∅ 0) ⊢ iprop(|={Set.univ}=> semVal g 0) := by
  iintro ⟨#HI, Hat⟩
  imod (Rounds.cell_close ER (Rd m) (Set.mem_univ (K g)) (fun h => h) (R := 0 + 1) (duties_later m g)) $$ [Hat] with Hz
  · isplitr; · iapply (inv_of m K hg); iexact HI
    iexact Hat
  imodintro; iexact Hz

end Steps

/-! ## The program's names for the slots and semaphores -/

/-- Entry `k` of the array of send semaphores, as the program slices it out. -/
theorem send_eq (k : Fin 3) (n : ℕ) (hn : n = k.val) (h h') : ((cc0_scratch2.slice (Rect.unit (s := S3) ![n] S1.size h)).squeeze S_ h').sem = sendS k := by
  subst hn; revert k; decide
/-- Entry `k` of the array of receive semaphores. -/
theorem recv_eq (k : Fin 3) (n : ℕ) (hn : n = k.val) (h h') : ((cc0_scratch3.slice (Rect.unit (s := S3) ![n] S1.size h)).squeeze S_ h').sem = recvS k := by
  subst hn; revert k; decide
/-- Slot `k` of the landing buffer. -/
theorem slot_eq (k : Fin 3) (n : ℕ) (hn : n = k.val) (h h' h'') :
    ((Memref.whole cc0_scratch1 : Memref sig .tc .vmem S3x2x2048 .f32).slice (Rect.unit (s := S3x2x2048) ![n, 0, 0] S1x2x2048.size h) h').squeeze S2x2048 h'' = slotM k := by
  subst hn; rfl

/-- What the last point starts from besides the accumulation: everything of the exchange, and the landing buffer. -/
def exchPre (K : GSem nD τ sig → ℕ) (c : Dev nD) (W : Waits sig Unit) : sProp 𝕄 :=
  iprop(records m K ∗ opened c ∗ waits c ∗ levAts L lv ∗ comAny c ∗ owes (c : Thread nD τ) (O₀ c) W)
/-- What it ends with: every semaphore of the exchange at zero, the landing buffer back, nothing owed. -/
def exchPost (c : Dev nD) : sProp 𝕄 :=
  iprop(semVal (barCell c) 0 ∗ (bigSep Finset.univ fun k => semVal ((c : Thread nD τ), osem k) 0) ∗ comAny c ∗ ∃ W, owes (c : Thread nD τ) (0 : CellTallies nD τ sig Unit) W)

omit [FloatOps F] in
/-- Something held for each semaphore of the two arrays is held for each send semaphore and each receive semaphore. -/
theorem bigSep_osem (Φ : Fin 3 ⊕ Fin 3 → sProp 𝕄) :
    bigSep Finset.univ Φ = iprop((bigSep Finset.univ fun k => Φ (.inl k)) ∗ bigSep Finset.univ fun k => Φ (.inr k)) := by
  have e : (Finset.univ : Finset (Fin 3 ⊕ Fin 3)) = Finset.univ.map Function.Embedding.inl ∪ Finset.univ.map Function.Embedding.inr := by decide
  rw [e, bigSep_union (by decide), bigSep_map, bigSep_map]; rfl

omit [FloatOps F] in
/-- The six scoped semaphores at zero, from each at zero. -/
theorem sems_intro (c : Dev nD) :
    iprop(semVal (sendCell 0 c) 0 ∗ semVal (sendCell 1 c) 0 ∗ semVal (sendCell 2 c) 0 ∗ semVal (recvCell 0 c) 0 ∗ semVal (recvCell 1 c) 0 ∗ semVal (recvCell 2 c) 0)
      ⊢ (bigSep Finset.univ fun k => semVal ((c : Thread nD τ), osem k) 0 : sProp 𝕄) := by
  rw [bigSep_osem, bigSep_fin3, bigSep_fin3]
  iintro ⟨H0, H1, H2, H3, H4, H5⟩
  isplitl [H0 H1 H2]
  · isplitl [H0]; · iexact H0
    isplitl [H1] <;> iassumption
  isplitl [H3]; · iexact H3
  isplitl [H4] <;> iassumption

set_option maxHeartbeats 1600000 in
theorem wp_last (K : GSem nD τ sig → ℕ) (c : Dev nD) (i : grid0.Coords) (hi : (i 0).val = 3)
    (arg1 : Memref sig .tc .smem S1 .i32) (h1) (arg2 arg3 : Memref sig .tc .vmem S512x2048 .f32) (h2 h3)
    (X D : Vec F S512x2048 .f32) (A : Vec F S2x2048 .f32) (hA : k0_pay4 X D A = accF m c) (W : Waits sig Unit) (Kt : PUnit → sProp 𝕄) :
    iprop(exchPre m K c W ∗ owns (c : Thread nD τ) arg2 fullShare X ∗ owns (c : Thread nD τ) arg3 fullShare D ∗ accAll c A
        ∗ (∃ g, owns (c : Thread nD τ) outM fullShare g)
        ∗ ((exchPost c ∗ owns (c : Thread nD τ) arg2 fullShare X ∗ owns (c : Thread nD τ) arg3 fullShare D ∗ accAll c (accF m c)
            ∗ owns (c : Thread nD τ) outM fullShare (outAt m c)) -∗ Kt ⟨⟩))
      ⊢ wp frame (wpE (defs₀ (F := F)) 𝒱₀ c none) Set.univ
          (cc0__body i arg1 h1 arg2 h2 arg3 h3 (Memref.whole cc0_stg2_0) (Memref.isWhole_whole _) (Memref.whole cc0_scratch0) (Memref.isWhole_whole _)
            (Memref.whole cc0_scratch1) (Memref.isWhole_whole _) cc0_scratch2 cc0_scratch3) Kt := by
  have hc : k0_cond3 i = 1#1 := by
    have h : ∀ j : Fin 4, j.val = 3 → Scalar.cmpi .ne (Scalar.extui (Scalar.cmpi .eq (BitVec.ofNat 32 j.val) 3#32) : BitVec 32) 0#32 = 1#1 := by decide
    exact h (i 0) hi
  simp only [cc0__body_eq_skeleton]; unfold cc0__body_skel
  rw [wp_bind, dif_pos hc]
  iintro ⟨Hex, H2, H3, Ha, ⟨%g, Hout⟩, Hk⟩
  iapply (wp_acc_later c i (by omega) arg1 h1 arg2 arg3 h2 h3 _ _ X D A)
  isplitl [H2]; · iexact H2
  isplitl [H3]; · iexact H3
  isplitl [Ha]; · iexact Ha
  iintro ⟨H2, H3, Ha⟩
  rw [hA]
  simp only [k0_part1_eq_skeleton, k0_part2_eq_skeleton, k0_part3_eq_skeleton]
  unfold k0_part1_skel k0_part2_skel k0_part3_skel
  simp only [semSignalWord, semWaitWord, Prog.lift, Prog.bind_op, Prog.bind_ret, Prog.pure_eq_ret, wp_deviceId]
  simp only [dev1_eq c, dev2_eq c, dev3_eq c, dev4_eq c, dev5_eq c, dev6_eq c]
  simp only [send_eq 0 0 rfl, send_eq 1 1 rfl, send_eq 2 2 rfl, recv_eq 0 0 rfl, recv_eq 1 1 rfl, recv_eq 2 2 rfl, slot_eq 0 0 rfl, slot_eq 1 1 rfl, slot_eq 2 2 rfl]
  unfold exchPre opened waits
  simp only [bigSep_fin3]
  unfold payToks
  icases Hex with ⟨#HI, ⟨HatB, ⟨⟨HatS0, #HrS0, HatV0, #HrV0⟩, ⟨HatS1, #HrS1, HatV1, #HrV1⟩, ⟨HatS2, #HrS2, HatV2, #HrV2⟩⟩, ⟨⟨HtB0, HtV0, HtS0⟩, ⟨HtB1, HtV1, HtS1⟩, ⟨HtB2, HtV2, HtS2⟩⟩⟩, ⟨HcB, HcV0, HcV1, HcV2⟩, #Hlev, ⟨%fc, Hcom⟩, HO⟩
  ihave Hcom := (com_split c fc) $$ Hcom
  icases Hcom with ⟨Hs0, Hs1, Hs2⟩
  -- the three signals, each with the slot its partner will write
  iapply (step_signal m K 0 c rfl fc _ _ rfl) $$ [HO HtB0 Hs0]
  · isplitr; · iexact HI
    isplitl [HO]; · unfold O₀; iexact HO
    isplitl [HtB0]; · iexact HtB0
    isplitl [Hs0]; · iexact Hs0
    iexact HrV0
  iintro HO
  iapply (step_signal m K 1 c rfl fc _ _ rfl) $$ [HO HtB1 Hs1]
  · isplitr; · iexact HI
    isplitl [HO]; · iexact HO
    isplitl [HtB1]; · iexact HtB1
    isplitl [Hs1]; · iexact Hs1
    iexact HrV1
  iintro HO
  iapply (step_signal m K 2 c rfl fc _ _ rfl) $$ [HO HtB2 Hs2]
  · isplitr; · iexact HI
    isplitl [HO]; · iexact HO
    isplitl [HtB2]; · iexact HtB2
    isplitl [Hs2]; · iexact Hs2
    iexact HrV2
  iintro HO
  iapply (step_bar m K c rfl W) $$ [HcB HO HatB]
  · isplitr; · iexact HI
    isplitr; · iexact Hlev
    isplitl [HcB]; · iexact HcB
    isplitl [HO]; · iexact HO
    iexact HatB
  iintro ⟨HO, HatB, Hp0, Hp1, Hp2⟩
  unfold barPay
  icases Hp0 with ⟨⟨%g0, Hn0⟩, #Hr0⟩
  icases Hp1 with ⟨⟨%g1, Hn1⟩, #Hr1⟩
  icases Hp2 with ⟨⟨%g2, Hn2⟩, #Hr2⟩
  ihave Ha := (acc_split c (accF m c)).1 $$ Ha
  icases Ha with ⟨Ha0, Ha1, Ha2⟩
  -- the three copies, each reading a share of the sums
  iapply (step_send m K 0 c _ (dev4_eq c _) g0 (tallyAt (recvCell 1 (peer 1 c)) () N + tallyAt (recvCell 2 (peer 2 c)) () N) (owedR c)
      (by unfold owedR; rw [add_assoc, add_comm])) $$ [Ha0 Hn0 HO HtS0 HtV0]
  · isplitr; · iexact HI
    isplitl [Ha0]; · iexact Ha0
    isplitl [Hn0]; · iexact Hn0
    isplitl [HO]; · iexact HO
    isplitl [HtS0]; · iexact HtS0
    isplitr; · iexact HrS0
    isplitl [HtV0]; · iexact HtV0
    iexact Hr0
  iintro ⟨HcS0, HO⟩
  iapply (step_send m K 1 c _ (dev5_eq c _) g1 (tallyAt (recvCell 2 (peer 2 c)) () N) _ (add_comm _ _)) $$ [Ha1 Hn1 HO HtS1 HtV1]
  · isplitr; · iexact HI
    isplitl [Ha1]; · iexact Ha1
    isplitl [Hn1]; · iexact Hn1
    isplitl [HO]; · iexact HO
    isplitl [HtS1]; · iexact HtS1
    isplitr; · iexact HrS1
    isplitl [HtV1]; · iexact HtV1
    iexact Hr1
  iintro ⟨HcS1, HO⟩
  iapply (step_send m K 2 c _ (dev6_eq c _) g2 0 _ (zero_add _).symm) $$ [Ha2 Hn2 HO HtS2 HtV2]
  · isplitr; · iexact HI
    isplitl [Ha2]; · iexact Ha2
    isplitl [Hn2]; · iexact Hn2
    isplitl [HO]; · iexact HO
    isplitl [HtS2]; · iexact HtS2
    isplitr; · iexact HrS2
    isplitl [HtV2]; · iexact HtV2
    iexact Hr2
  iintro ⟨HcS2, HO⟩
  -- the six waits
  iapply (step_sent m K 0 c _) $$ [HcS0 HO HatS0]
  · isplitr; · iexact HI
    isplitl [HcS0]; · iexact HcS0
    isplitl [HO]; · iexact HO
    iexact HatS0
  iintro ⟨HO, HatS0, Ha0⟩
  iapply (step_landed m K 0 c _) $$ [HcV0 HO HatV0]
  · isplitr; · iexact HI
    isplitl [HcV0]; · iexact HcV0
    isplitl [HO]; · iexact HO
    iexact HatV0
  iintro ⟨HO, HatV0, Hp0⟩
  iapply (step_sent m K 1 c _) $$ [HcS1 HO HatS1]
  · isplitr; · iexact HI
    isplitl [HcS1]; · iexact HcS1
    isplitl [HO]; · iexact HO
    iexact HatS1
  iintro ⟨HO, HatS1, Ha1⟩
  iapply (step_landed m K 1 c _) $$ [HcV1 HO HatV1]
  · isplitr; · iexact HI
    isplitl [HcV1]; · iexact HcV1
    isplitl [HO]; · iexact HO
    iexact HatV1
  iintro ⟨HO, HatV1, Hp1⟩
  iapply (step_sent m K 2 c _) $$ [HcS2 HO HatS2]
  · isplitr; · iexact HI
    isplitl [HcS2]; · iexact HcS2
    isplitl [HO]; · iexact HO
    iexact HatS2
  iintro ⟨HO, HatS2, Ha2⟩
  iapply (step_landed m K 2 c _) $$ [HcV2 HO HatV2]
  · isplitr; · iexact HI
    isplitl [HcV2]; · iexact HcV2
    isplitl [HO]; · iexact HO
    iexact HatV2
  iintro ⟨HO, HatV2, Hp2⟩
  unfold recvPay slotPts
  icases Hp0 with ⟨%d0, Hs0⟩
  icases Hp1 with ⟨%d1, Hs1⟩
  icases Hp2 with ⟨%d2, Hs2⟩
  ihave Ha := (acc_split c (accF m c)).2 $$ [Ha0 Ha1 Ha2]
  · isplitl [Ha0]; · iexact Ha0
    isplitl [Ha1] <;> iassumption
  -- the sums and the three slots are added up
  iapply (wp_load 𝒱₀ (c : Thread nD τ) none Set.univ (m := accM) (Finset.subset_univ _)) $$ Ha; iintro Ha
  iapply (wp_load_rect 𝒱₀ (c : Thread nD τ) none Set.univ (m := comM) (r := slotR 0) (slot_access 0)) $$ Hs0; iintro Hs0
  iapply (wp_load_rect 𝒱₀ (c : Thread nD τ) none Set.univ (m := comM) (r := slotR 1) (slot_access 1)) $$ Hs1; iintro Hs1
  iapply (wp_load_rect 𝒱₀ (c : Thread nD τ) none Set.univ (m := comM) (r := slotR 2) (slot_access 2)) $$ Hs2; iintro Hs2
  ihave Hout := (Entails.of_eq (owns_out c g)) $$ Hout
  icases Hout with ⟨%go, %eo, Hout⟩
  iapply (wp_load 𝒱₀ (c : Thread nD τ) none Set.univ (m := outM) (Finset.subset_univ _)) $$ Hout; iintro Hout
  iapply (wp_store 𝒱₀ (c : Thread nD τ) none Set.univ (m := outM) (r := rSum) (Mk := Finset.univ) (Finset.subset_univ _)) $$ Hout; iintro Hout
  rw [write_out, read_acc, pay1_landed m c d0 d1 d2, wp_ret]
  imod (step_close m K (bar_mem c)) $$ [HatB] with HzB
  · isplitr; · iexact HI
    iexact HatB
  imod (step_close m K (send_mem 0 c)) $$ [HatS0] with HzS0
  · isplitr; · iexact HI
    iexact HatS0
  imod (step_close m K (send_mem 1 c)) $$ [HatS1] with HzS1
  · isplitr; · iexact HI
    iexact HatS1
  imod (step_close m K (send_mem 2 c)) $$ [HatS2] with HzS2
  · isplitr; · iexact HI
    iexact HatS2
  imod (step_close m K (recv_mem 0 c)) $$ [HatV0] with HzV0
  · isplitr; · iexact HI
    iexact HatV0
  imod (step_close m K (recv_mem 1 c)) $$ [HatV1] with HzV1
  · isplitr; · iexact HI
    iexact HatV1
  imod (step_close m K (recv_mem 2 c)) $$ [HatV2] with HzV2
  · isplitr; · iexact HI
    iexact HatV2
  imodintro
  iapply Hk
  unfold exchPost
  isplitl [HzB HzS0 HzS1 HzS2 HzV0 HzV1 HzV2 Hs0 Hs1 Hs2 HO]
  · isplitl [HzB]; · iexact HzB
    isplitl [HzS0 HzS1 HzS2 HzV0 HzV1 HzV2]
    · iapply (sems_intro (F := F) c)
      isplitl [HzS0]; · iexact HzS0
      isplitl [HzS1]; · iexact HzS1
      isplitl [HzS2]; · iexact HzS2
      isplitl [HzV0]; · iexact HzV0
      isplitl [HzV1]; · iexact HzV1
      iexact HzV2
    isplitl [Hs0 Hs1 Hs2]
    · iapply (com_join c (fun k => if k = 0 then landed m 0 c d0 else if k = 1 then landed m 1 c d1 else landed m 2 c d2))
      unfold slotPts
      isplitl [Hs0]; · iexact Hs0
      isplitl [Hs1]; · iexact Hs1
      iexact Hs2
    iexists _; iexact HO
  isplitl [H2]; · iexact H2
  isplitl [H3]; · iexact H3
  isplitl [Ha]; · iexact Ha
  rw [owns_out]; iexists _; isplitr; · ipureintro; rfl
  iexact Hout

end Cert.NormGrad

end
-- ==== Proof.Points.lean ====
/-
The four points of the kernel on one device: what is held between them, and that every point takes one to the next.
-/
module

public import proofs.«01_k».proof.Proof.Body

@[expose] public section

noncomputable section

namespace Cert.NormGrad

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

variable (m : (ℓ : Loc nD τ sig) → Buf (Elt F) ℓ)

/-! ## What is held between the points -/

/-- A device's share of the exchange, untouched until the last point. -/
def carry (c : Dev nD) : sProp 𝕄 := iprop((∃ K, records m K) ∗ opened c ∗ waits c ∗ levAts L lv)

/-- Before the first point: the sums hold anything. -/
def atFirst (c : Dev nD) : sProp 𝕄 := iprop(carry m c ∗ (∃ f, accAll c f) ∗ comAny c)
/-- Between two points: the sums hold `A`. -/
def atMid (A : Vec F S2x2048 .f32) (c : Dev nD) : sProp 𝕄 := iprop(carry m c ∗ accAll c A ∗ comAny c)
/-- After the last point: every semaphore of the exchange back at zero. -/
def atLast (c : Dev nD) : sProp 𝕄 :=
  iprop(semVal (barCell c) 0 ∗ (bigSep Finset.univ fun k => semVal ((c : Thread nD τ), osem k) 0) ∗ (∃ f, accAll c f) ∗ comAny c)

/-- What device `c` holds before point `n`. -/
def heldAt (c : Dev nD) : ℕ → sProp 𝕄
  | 0 => atFirst m c
  | 1 => atMid m (acc0 m c) c
  | 2 => atMid m (acc1 m c) c
  | 3 => atMid m (acc2 m c) c
  | _ => atLast c

/-- What it then owes. -/
def owedAt (c : Dev nD) (n : ℕ) : CellTallies nD τ sig Unit := if n < 4 then O₀ c else 0

/-- The kernel's run on device `c`: its arrays at entry, what each point leaves in the windows, what is held and owed
    in between. -/
def dat (c : Dev nD) : Dat τ (Elt F) Unit ℕ UU ℕ (cfgD (F := F) c) c where
  A w := match w with
    | 0 => V1 m c main_arg0
    | 1 => V1 m c main_arg1
    | 2 => V1 m c main_v6
    | ⟨_ + 3, h⟩ => absurd h (Nat.not_lt.2 (Nat.le_add_left _ _))
  after w t := match w with
    | 0 => xblk m c t
    | 1 => dblk m c t
    | 2 => outAt m c
    | ⟨_ + 3, h⟩ => absurd h (Nat.not_lt.2 (Nat.le_add_left _ _))
  Φ t := heldAt m c t.val
  q _ := fullShare
  owed t := owedAt c t.val

/-- The same, as the launch takes it. -/
def dats : (p : Fin 1) → (c : Dev nD) → Dat τ (Elt F) Unit ℕ UU ℕ (Pipeline.pinD (pcfgs (F := F)) adm c p) c
  | 0 => dat m
  | ⟨_ + 1, h⟩ => absurd h (Nat.not_lt.2 (Nat.le_add_left _ _))

theorem V1_arg0 (c : Dev nD) : V1 m c main_arg0 = m ((c : Thread nD τ).loc main_arg0) := V1_of m c main_arg0 (by decide)
theorem V1_arg1 (c : Dev nD) : V1 m c main_arg1 = m ((c : Thread nD τ).loc main_arg1) := V1_of m c main_arg1 (by decide)
theorem V1_arg2 (c : Dev nD) : V1 m c main_arg2 = m ((c : Thread nD τ).loc main_arg2) := V1_of m c main_arg2 (by decide)

theorem coords_val : ∀ t : Fin grid0.N, ((grid0.coords t) 0).val = t.val := by decide

/-- Every point fetches a new block of the first input. -/
theorem fetch_x (c : Dev nD) (t : Fin grid0.N) : ((cfgD (F := F) c).win (0 : Fin 3)).fetch t = true := by
  show Window.fetchOf grid0 false (cc0_transform_0 (F := F) Facts₀.inb_S1_S1_0 Facts₀.numel1_S1 (tab c)) t = true
  unfold Window.fetchOf
  simp only [ix_x, coords_val]
  rcases Nat.eq_zero_or_pos t.val with h | h
  · simp [h]
  · have : (![c.val % 2 * 4 + t.val, 0] : Fin 2 → ℕ) ≠ ![c.val % 2 * 4 + (t.val - 1), 0] := fun e => by
      have := congrFun e 0
      simp only [Matrix.cons_val_zero] at this
      omega
    simp [h, this]
/-- The same of the second input. -/
theorem fetch_dy (c : Dev nD) (t : Fin grid0.N) : ((cfgD (F := F) c).win (1 : Fin 3)).fetch t = true := fetch_x c t

theorem before_x (c : Dev nD) (t : Fin grid0.N) (d) : (dat m c).before (0 : Fin 3) t d = xblk m c t := by
  unfold Dat.before; rw [if_pos (fetch_x c t)]
  exact congrArg (fun A => (((cfgD (F := F) c).win (0 : Fin 3)).blk t).view.read (Elt F) A) (V1_arg0 m c)
theorem before_dy (c : Dev nD) (t : Fin grid0.N) (d) : (dat m c).before (1 : Fin 3) t d = dblk m c t := by
  unfold Dat.before; rw [if_pos (fetch_dy c t)]
  exact congrArg (fun A => (((cfgD (F := F) c).win (1 : Fin 3)).blk t).view.read (Elt F) A) (V1_arg1 m c)

/-! ## One point -/

/-- A point before the last is its accumulation alone. -/
theorem wp_quiet (c : Dev nD) (i : grid0.Coords) (hi : (i 0).val ≠ 3)
    (arg1 : Memref sig .tc .smem S1 .i32) (h1) (arg2 arg3 : Memref sig .tc .vmem S512x2048 .f32) (h2 h3) (arg4 : Memref sig .tc .vmem S2x2048 .f32) (h4)
    (Kt : PUnit → sProp 𝕄) :
    wp frame (wpE (defs₀ (F := F)) 𝒱₀ c none) Set.univ
        (k0_part4 i arg1 h1 arg2 h2 arg3 h3 arg4 h4 (Memref.whole cc0_scratch0) (Memref.isWhole_whole _) (Memref.whole cc0_scratch1) (Memref.isWhole_whole _) cc0_scratch2 cc0_scratch3) Kt
      ⊢ wp frame (wpE (defs₀ (F := F)) 𝒱₀ c none) Set.univ
        (cc0__body i arg1 h1 arg2 h2 arg3 h3 arg4 h4 (Memref.whole cc0_scratch0) (Memref.isWhole_whole _) (Memref.whole cc0_scratch1) (Memref.isWhole_whole _) cc0_scratch2 cc0_scratch3) Kt := by
  have hc : ¬ k0_cond3 i = 1#1 := by
    have h : ∀ j : Fin 4, j.val ≠ 3 → ¬ Scalar.cmpi .ne (Scalar.extui (Scalar.cmpi .eq (BitVec.ofNat 32 j.val) 3#32) : BitVec 32) 0#32 = 1#1 := by decide
    exact h (i 0) hi
  simp only [cc0__body_eq_skeleton]; unfold cc0__body_skel
  rw [wp_bind, dif_neg hc]
  refine wp_mono _ _ _ fun _ => ?_
  rw [Prog.pure_eq_ret, wp_ret]
  iintro H; imodintro; iexact H

/-- The first point. -/
theorem point_first (c : Dev nD) (i : grid0.Coords) (hi : (i 0).val = 0)
    (arg1 : Memref sig .tc .smem S1 .i32) (h1) (arg2 arg3 : Memref sig .tc .vmem S512x2048 .f32) (h2 h3) (arg4 : Memref sig .tc .vmem S2x2048 .f32) (h4)
    (X D : Vec F S512x2048 .f32) (R : sProp 𝕄) :
    iprop(atFirst m c ∗ R ∗ owns (c : Thread nD τ) arg2 fullShare X ∗ owns (c : Thread nD τ) arg3 fullShare D)
      ⊢ wp frame (wpE (defs₀ (F := F)) 𝒱₀ c none) Set.univ
          (cc0__body i arg1 h1 arg2 h2 arg3 h3 arg4 h4 (Memref.whole cc0_scratch0) (Memref.isWhole_whole _) (Memref.whole cc0_scratch1) (Memref.isWhole_whole _) cc0_scratch2 cc0_scratch3)
          fun _ => iprop(atMid m (k0_pay3 X D) c ∗ R ∗ owns (c : Thread nD τ) arg2 fullShare X ∗ owns (c : Thread nD τ) arg3 fullShare D) := by
  unfold atFirst atMid
  iintro ⟨⟨Hc, Ha, Hcom⟩, HR, H2, H3⟩
  iapply (wp_quiet c i (by omega) arg1 h1 arg2 arg3 h2 h3 arg4 h4)
  iapply (wp_acc_first c i hi arg1 h1 arg2 arg3 h2 h3 arg4 h4 X D)
  isplitl [H2]; · iexact H2
  isplitl [H3]; · iexact H3
  isplitl [Ha]; · iexact Ha
  iintro ⟨H2, H3, Ha⟩
  isplitl [Hc Ha Hcom]
  · isplitl [Hc]; · iexact Hc
    isplitl [Ha] <;> iassumption
  isplitl [HR]; · iexact HR
  isplitl [H2] <;> iassumption

/-- A point between. -/
theorem point_mid (c : Dev nD) (i : grid0.Coords) (hi : (i 0).val ≠ 0) (hi' : (i 0).val ≠ 3)
    (arg1 : Memref sig .tc .smem S1 .i32) (h1) (arg2 arg3 : Memref sig .tc .vmem S512x2048 .f32) (h2 h3) (arg4 : Memref sig .tc .vmem S2x2048 .f32) (h4)
    (X D : Vec F S512x2048 .f32) (A : Vec F S2x2048 .f32) (R : sProp 𝕄) :
    iprop(atMid m A c ∗ R ∗ owns (c : Thread nD τ) arg2 fullShare X ∗ owns (c : Thread nD τ) arg3 fullShare D)
      ⊢ wp frame (wpE (defs₀ (F := F)) 𝒱₀ c none) Set.univ
          (cc0__body i arg1 h1 arg2 h2 arg3 h3 arg4 h4 (Memref.whole cc0_scratch0) (Memref.isWhole_whole _) (Memref.whole cc0_scratch1) (Memref.isWhole_whole _) cc0_scratch2 cc0_scratch3)
          fun _ => iprop(atMid m (k0_pay4 X D A) c ∗ R ∗ owns (c : Thread nD τ) arg2 fullShare X ∗ owns (c : Thread nD τ) arg3 fullShare D) := by
  unfold atMid
  iintro ⟨⟨Hc, Ha, Hcom⟩, HR, H2, H3⟩
  iapply (wp_quiet c i hi' arg1 h1 arg2 arg3 h2 h3 arg4 h4)
  iapply (wp_acc_later c i hi arg1 h1 arg2 arg3 h2 h3 arg4 h4 X D A)
  isplitl [H2]; · iexact H2
  isplitl [H3]; · iexact H3
  isplitl [Ha]; · iexact Ha
  iintro ⟨H2, H3, Ha⟩
  isplitl [Hc Ha Hcom]
  · isplitl [Hc]; · iexact Hc
    isplitl [Ha] <;> iassumption
  isplitl [HR]; · iexact HR
  isplitl [H2] <;> iassumption

/-- The last point. -/
theorem point_last (c : Dev nD) (i : grid0.Coords) (hi : (i 0).val = 3)
    (arg1 : Memref sig .tc .smem S1 .i32) (h1) (arg2 arg3 : Memref sig .tc .vmem S512x2048 .f32) (h2 h3)
    (X D : Vec F S512x2048 .f32) (A : Vec F S2x2048 .f32) (hA : k0_pay4 X D A = accF m c) :
    iprop(atMid m A c ∗ (∃ W, owes (c : Thread nD τ) (O₀ c) W) ∗ owns (c : Thread nD τ) arg2 fullShare X ∗ owns (c : Thread nD τ) arg3 fullShare D
        ∗ ∃ g, owns (c : Thread nD τ) outM fullShare g)
      ⊢ wp frame (wpE (defs₀ (F := F)) 𝒱₀ c none) Set.univ
          (cc0__body i arg1 h1 arg2 h2 arg3 h3 (Memref.whole cc0_stg2_0) (Memref.isWhole_whole _) (Memref.whole cc0_scratch0) (Memref.isWhole_whole _)
            (Memref.whole cc0_scratch1) (Memref.isWhole_whole _) cc0_scratch2 cc0_scratch3)
          fun _ => iprop(atLast c ∗ (∃ W, owes (c : Thread nD τ) (0 : CellTallies nD τ sig Unit) W) ∗ owns (c : Thread nD τ) arg2 fullShare X
            ∗ owns (c : Thread nD τ) arg3 fullShare D ∗ owns (c : Thread nD τ) outM fullShare (outAt m c)) := by
  unfold atMid carry
  iintro ⟨⟨⟨⟨%K, Hrec⟩, Hop, Hw, Hl⟩, Ha, Hcom⟩, ⟨%W, HO⟩, H2, H3, Hout⟩
  iapply (wp_last m K c i hi arg1 h1 arg2 arg3 h2 h3 X D A hA W)
  isplitl [Hrec Hop Hw Hl Hcom HO]
  · unfold exchPre
    isplitl [Hrec]; · iexact Hrec
    isplitl [Hop]; · iexact Hop
    isplitl [Hw]; · iexact Hw
    isplitl [Hl]; · iexact Hl
    isplitl [Hcom] <;> iassumption
  isplitl [H2]; · iexact H2
  isplitl [H3]; · iexact H3
  isplitl [Ha]; · iexact Ha
  isplitl [Hout]; · iexact Hout
  unfold exchPost atLast
  iintro ⟨⟨Hb, Hs, Hcom, HO⟩, H2, H3, Ha, Hout⟩
  isplitl [Hb Hs Hcom Ha]
  · isplitl [Hb]; · iexact Hb
    isplitl [Hs]; · iexact Hs
    isplitl [Ha]; · iexists _; iexact Ha
    iexact Hcom
  isplitl [HO]; · iexact HO
  isplitl [H2]; · iexact H2
  isplitl [H3] <;> iassumption

/-! ## Every point -/

theorem owes_out (c : Dev nD) (t : Fin (grid0.N + 1)) :
    ((dat m c).owesAt () t : sProp 𝕄) ⊢ iprop(∃ W, owes (c : Thread nD τ) (owedAt c t.val) W) := by
  unfold Dat.owesAt Pipeline.owesWithin
  iintro ⟨%W, -, HO⟩; iexists W; iexact HO
theorem owes_in (c : Dev nD) (t : Fin (grid0.N + 1)) :
    iprop(∃ W, owes (c : Thread nD τ) (owedAt c t.val) W) ⊢ ((dat m c).owesAt () t : sProp 𝕄) := by
  unfold Dat.owesAt Pipeline.owesWithin
  iintro ⟨%W, HO⟩; iexists W
  isplitr; · ipureintro; exact fun _ _ => Or.inl trivial
  iexact HO

/-- Before the last point the output window is left alone, -/
theorem idle_out (t : Fin grid0.N) (ht : t.val ≠ 3) : idle0 (2 : Fin 3) (grid0.coords t) = true := by
  have h : ∀ t : Fin grid0.N, t.val ≠ 3 → (!(k0_cond3 (grid0.coords t) == 1#1)) = true := by decide
  exact h t ht
/-- and not written back. -/
theorem flush_out (c : Dev nD) (t : Fin grid0.N) (ht : t.val ≠ 3) : ((cfgD (F := F) c).win (2 : Fin 3)).flush t = false := by
  have h : ∀ t : Fin grid0.N, t.val ≠ 3 → Window.flushOf grid0 true cc0_transform_2 t = false := by decide
  exact h t ht
/-- At the last point it is written. -/
theorem live_out (t : Fin grid0.N) (ht : t.val = 3) : idle0 (2 : Fin 3) (grid0.coords t) = false := by
  have h : ∀ t : Fin grid0.N, t.val = 3 → (!(k0_cond3 (grid0.coords t) == 1#1)) = false := by decide
  exact h t ht

set_option maxRecDepth 4000 in
/-- Every point takes what is held before it to what is held after it. -/
theorem body_ok (c : Dev nD) : BodyObligationLoose (dat m c) (defs₀ (F := F)) 𝒱₀ () Set.univ := fun t => by
  -- what a quiet point passes by: what is owed, and the output window
  let R (t : Fin grid0.N) : sProp 𝕄 := iprop((∃ W, owes (c : Thread nD τ) (O₀ c) W)
    ∗ ∃ d, owns (c : Thread nD τ) (spec0_2.stage ((cfgD (F := F) c).slots t (2 : Fin 3))) fullShare ((dat m c).before (2 : Fin 3) t d))
  have hin (P : sProp 𝕄) (t : Fin grid0.N) (ht : owedAt c t.castSucc.val = O₀ c) {Y : sProp 𝕄} :
      iprop(P ∗ (dat m c).owesAt () t.castSucc ∗ (∃ d : Vec F S512x2048 .f32, owns (c : Thread nD τ) (spec0_0.stage ((cfgD (F := F) c).slots t (0 : Fin 3))) fullShare (xblk m c t))
        ∗ (∃ d : Vec F S512x2048 .f32, owns (c : Thread nD τ) (spec0_1.stage ((cfgD (F := F) c).slots t (1 : Fin 3))) fullShare (dblk m c t)) ∗ Y)
      ⊢ iprop(P ∗ ((∃ W, owes (c : Thread nD τ) (O₀ c) W) ∗ Y) ∗ owns (c : Thread nD τ) (spec0_0.stage ((cfgD (F := F) c).slots t (0 : Fin 3))) fullShare (xblk m c t)
          ∗ owns (c : Thread nD τ) (spec0_1.stage ((cfgD (F := F) c).slots t (1 : Fin 3))) fullShare (dblk m c t)) := by
    iintro ⟨HP, HO, ⟨%d2, H2⟩, ⟨%d3, H3⟩, HY⟩
    ihave HO := (owes_out m c t.castSucc) $$ HO
    rw [ht]
    isplitl [HP]; · iexact HP
    isplitl [HO HY]
    · isplitl [HO] <;> iassumption
    isplitl [H2] <;> iassumption
  have hout (P : sProp 𝕄) (t : Fin grid0.N) (ht : owedAt c t.succ.val = O₀ c) :
      iprop(P ∗ R t ∗ owns (c : Thread nD τ) (spec0_0.stage ((cfgD (F := F) c).slots t (0 : Fin 3))) fullShare (xblk m c t)
          ∗ owns (c : Thread nD τ) (spec0_1.stage ((cfgD (F := F) c).slots t (1 : Fin 3))) fullShare (dblk m c t))
      ⊢ iprop(P ∗ (dat m c).owesAt () t.succ ∗ owns (c : Thread nD τ) (spec0_0.stage ((cfgD (F := F) c).slots t (0 : Fin 3))) fullShare (xblk m c t)
        ∗ owns (c : Thread nD τ) (spec0_1.stage ((cfgD (F := F) c).slots t (1 : Fin 3))) fullShare (dblk m c t)
        ∗ ∃ d, owns (c : Thread nD τ) (spec0_2.stage ((cfgD (F := F) c).slots t (2 : Fin 3))) fullShare ((dat m c).before (2 : Fin 3) t d)) := by
    iintro ⟨HP, ⟨HO, HY⟩, H2, H3⟩
    isplitl [HP]; · iexact HP
    isplitl [HO]
    · iapply (owes_in m c t.succ); rw [ht]; iexact HO
    isplitl [H2]; · iexact H2
    isplitl [H3] <;> iassumption
  rw [bigSep_W0, bigSep_W0]
  simp only [before_x, before_dy]
  rcases fin_N0 t with rfl | rfl | rfl | rfl
  · refine BIBase.Entails.trans (hin (atFirst m c) t0_0 (if_pos (by decide)))
      (BIBase.Entails.trans (point_first m c (grid0.coords t0_0) (by decide) _ _ _ _ _ _ _ _ (xblk m c t0_0) (dblk m c t0_0) (R t0_0))
        (wp_mono _ _ _ fun _ => BIBase.Entails.trans (hout (atMid m (acc0 m c) c) t0_0 (if_pos (by decide))) ?_))
    simp only [idle_out t0_0 (by decide), flush_out c t0_0 (by decide)]
    exact BI.Entails.refl _
  · refine BIBase.Entails.trans (hin (atMid m (acc0 m c) c) t0_1 (if_pos (by decide)))
      (BIBase.Entails.trans (point_mid m c (grid0.coords t0_1) (by decide) (by decide) _ _ _ _ _ _ _ _ (xblk m c t0_1) (dblk m c t0_1) (acc0 m c) (R t0_1))
        (wp_mono _ _ _ fun _ => BIBase.Entails.trans (hout (atMid m (acc1 m c) c) t0_1 (if_pos (by decide))) ?_))
    simp only [idle_out t0_1 (by decide), flush_out c t0_1 (by decide)]
    exact BI.Entails.refl _
  · refine BIBase.Entails.trans (hin (atMid m (acc1 m c) c) t0_2 (if_pos (by decide)))
      (BIBase.Entails.trans (point_mid m c (grid0.coords t0_2) (by decide) (by decide) _ _ _ _ _ _ _ _ (xblk m c t0_2) (dblk m c t0_2) (acc1 m c) (R t0_2))
        (wp_mono _ _ _ fun _ => BIBase.Entails.trans (hout (atMid m (acc2 m c) c) t0_2 (if_pos (by decide))) ?_))
    simp only [idle_out t0_2 (by decide), flush_out c t0_2 (by decide)]
    exact BI.Entails.refl _
  · refine BIBase.Entails.trans (hin (atMid m (acc2 m c) c) t0_3 (if_pos (by decide)))
      (BIBase.Entails.trans ?_ (BIBase.Entails.trans (point_last m c (grid0.coords t0_3) (by decide) _ _ _ _ _ _ (xblk m c t0_3) (dblk m c t0_3) (acc2 m c) rfl)
        (wp_mono _ _ _ fun _ => ?_)))
    · iintro ⟨HP, ⟨HO, ⟨%d, Hout⟩⟩, H2, H3⟩
      isplitl [HP]; · iexact HP
      isplitl [HO]; · iexact HO
      isplitl [H2]; · iexact H2
      isplitl [H3]; · iexact H3
      iexists ((dat m c).before (2 : Fin 3) t0_3 d); iexact Hout
    · simp only [live_out t0_3 (by decide)]
      rw [show (dat m c).Φ t0_3.succ = atLast c from rfl]
      iintro ⟨HP, HO, H2, H3, Hout⟩
      isplitl [HP]; · iexact HP
      isplitl [HO]
      · iapply (owes_in m c t0_3.succ); rw [show owedAt c t0_3.succ.val = 0 from if_neg (by decide)]; iexact HO
      isplitl [H2]; · iexact H2
      isplitl [H3]; · iexact H3
      iexact Hout

end Cert.NormGrad

end
-- ==== Proof.Run.lean ====
/-
The whole program on the four devices: the host operations, the kernel, and what memory and semaphores hold at the end.
-/
module

public import proofs.«01_k».proof.Proof.Points
public import Idealize.ShloMosaic.Lib.Pipeline.Frame
public import Idealize.ShloMosaic.Lib.Pipeline.ValueKit.Geometry
public import Idealize.ShloMosaic.Lib.Quiescent
public import Idealize.ShloMosaic.Harness.Basic

@[expose] public section

noncomputable section

namespace Cert.NormGrad

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg Window BodyObligation BodyObligationLoose cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel as one step of the program -/

/-- A device's share of the exchange before the kernel starts, and its debt. -/
def aside (c : Dev nD) : sProp 𝕄 :=
  iprop((∃ K, records m K) ∗ linear c ∗ waits c ∗ ∃ W, owes (c : Thread nD τ) (O₀ c) W)

/-- A closed semaphore of the exchange, with its counter at zero, opens at its first round. -/
theorem open_one (K : GSem nD τ sig → ℕ) (c : Dev nD) (k : Fin 3 ⊕ Fin 3) :
    iprop(records m K ∗ (openTok ER ((c : Thread nD τ), osem k) ∗ semVal ((c : Thread nD τ), osem k) 0))
      ⊢ (|={Set.univ}=> (atPos ER ((c : Thread nD τ), osem k) 0 ∅ 0 ∗ reached ER ((c : Thread nD τ), osem k) 0) : sProp 𝕄) := by
  iintro ⟨#HR, Ho, Hv⟩
  iapply (Rounds.cell_open ER (Rd m) (g := ((c : Thread nD τ), osem k)) (Set.mem_univ (K ((c : Thread nD τ), osem k))))
  isplitr
  · iapply (inv_of m K (Finset.mem_union_right _ (Finset.mem_map_of_mem scEmb (Finset.mem_univ (c, k))))); iexact HR
  isplitl [Ho] <;> iassumption

/-- All six open together. -/
theorem open_all (K : GSem nD τ sig → ℕ) (c : Dev nD) :
    iprop(records m K ∗ linear c ∗ Pipeline.ownSems0 osem c) ⊢ (|={Set.univ}=> opened c : sProp 𝕄) := by
  have h : iprop(records m K ∗ (bigSep Finset.univ fun k => openTok ER ((c : Thread nD τ), osem k)) ∗ bigSep Finset.univ fun k => semVal ((c : Thread nD τ), osem k) 0)
      ⊢ (|={Set.univ}=> bigSep Finset.univ fun k => iprop(atPos ER ((c : Thread nD τ), osem k) 0 ∅ 0 ∗ reached ER ((c : Thread nD τ), osem k) 0) : sProp 𝕄) := by
    refine BIBase.Entails.trans ?_ (bigSep_fupd Finset.univ _)
    iintro ⟨#HR, Ho, Hv⟩
    iapply (bigSep_with_persistent (R := records m K) (Φ := fun k => iprop(openTok ER ((c : Thread nD τ), osem k) ∗ semVal ((c : Thread nD τ), osem k) 0)) fun k _ => open_one m K c k)
    isplitr; · iexact HR
    iapply bigSep_pair
    isplitl [Ho] <;> iassumption
  have hgroup : (bigSep Finset.univ fun k => iprop(atPos ER ((c : Thread nD τ), osem k) 0 ∅ 0 ∗ reached ER ((c : Thread nD τ), osem k) 0))
      ⊢ (bigSep Finset.univ fun k : Fin 3 => iprop(atPos ER (sendCell k c) 0 ∅ 0 ∗ reached ER (sendCell k c) 0 ∗ atPos ER (recvCell k c) 0 ∅ 0 ∗ reached ER (recvCell k c) 0) : sProp 𝕄) := by
    rw [bigSep_osem]
    simp only [bigSep_sep']
    iintro ⟨⟨Ha, Hra⟩, Hb, Hrb⟩
    isplitl [Ha]; · iexact Ha
    isplitl [Hra]; · iexact Hra
    isplitl [Hb] <;> iassumption
  unfold linear opened Pipeline.ownSems0
  iintro ⟨#HR, ⟨Hb, Ho, Ht⟩, Hv⟩
  imod h $$ [Ho Hv] with H
  · isplitr; · iexact HR
    isplitl [Ho] <;> iassumption
  imodintro
  isplitl [Hb]; · iexact Hb
  isplitl [H]
  · iapply hgroup $$ H
  · iexact Ht

theorem owed_or (c : Dev nD) (n : ℕ) : owedAt c n = O₀ c ∨ owedAt c n = 0 := by
  unfold owedAt; split
  · exact .inl rfl
  · exact .inr rfl

/-- The staging semaphores come before all others. -/
theorem stage_low : ∀ (w : Fin 3) (s : Fin (spec0 w).nbuf), ((spec0 w).sem s).val < 8 := by decide

theorem own_sems : Pipeline.OwnSemFacts spec0 osem := by decide

theorem waits_ok (c : Dev nD) :
    (levAts L lv : sProp 𝕄) ⊢ Pipeline.PerCore.cellsWaits (Pipeline.pinD (pcfgs (F := F)) adm) (dats m) () 0 c :=
  Pipeline.PerCore.cellsWaits_intro (Pipeline.pinD (pcfgs (F := F)) adm) (dats m) () 0 c
    fun w s t => mayWait_stage c _ (stage_low w s) _ (owed_or c t.val)

/-- Nothing is owed at the end. -/
theorem owes_last (c : Dev nD) :
    ((dat m c).owesAt () (Fin.last grid0.N) : sProp 𝕄) ⊢ iprop(∃ W, owes (c : Thread nD τ) (0 : CellTallies nD τ sig Unit) W) := by
  have h := owes_out m c (Fin.last grid0.N)
  rw [show owedAt c (Fin.last grid0.N).val = 0 from if_neg (by decide)] at h
  exact h

/-- The buffer holding the unused third argument, which the kernel leaves alone. -/
def untouched (c : Dev nD) : sProp 𝕄 := ((c : Thread nD τ).loc main_arg2) ↦{fullShare} V1 m c main_arg2

/-- What a device ends with: the kernel's arrays as it leaves them, the third argument, and its barrier at zero. -/
def leaves (c : Dev nD) : sProp 𝕄 :=
  iprop((dats m 0 c).arrays ((dats m 0 c).arrAt · (cfgD (F := F) c).N) ∗ untouched m c ∗ semVal (barCell c) 0)

theorem share_full (c : Dev nD) (w) : (dats m 0 c).share w = fullShare := (dats m 0 c).share_full (fun _ => rfl) w

/-- The unscoped buffers, after the host operations, are the kernel's arrays, its table and the third argument. -/
theorem entry_bufs (c : Dev nD) :
    (StableHlo.held (c : Thread nD τ) (Pipeline.ucRefs τ sig) (V1 m c) : sProp 𝕄)
      ⊢ iprop((dats m 0 c).arrays ((dats m 0 c).arrAt · 0) ∗ Pipeline.prefHeld pre0 c (fun _ => fullShare) (adm (F := F) c 0).1 ∗ untouched m c) := by
  have hp : (fun k => V1 m c (pre0.ref k)) = (adm (F := F) c 0).1 := funext fun k => by
    obtain rfl : k = 0 := Subsingleton.elim _ _
    exact V1_main_v5 m c
  have h1 := Pipeline.PerCore.arrays_of_unscopedBufs (pcfgs (F := F)) adm (dats m) (p := 0) winFacts0 arr_whole0 c (share_full m c) (fun b => V1 m c b)
    (fun w => by fin_cases w <;> rfl)
  have h2 := Pipeline.unscopedRest_split (Ix := Unit) (Name := ℕ) (U := UU) (Lvl := ℕ) preFacts0 c (fun b => V1 m c b)
  rw [hp, unscopedRestP0_eq] at h2
  rw [← Pipeline.unscopedBufs_held c (V1 m c)]
  refine BIBase.Entails.trans h1 ?_
  rw [show Pipeline.unscopedRest (pcfgs (F := F) 0).spec c (fun b => V1 m c b) = _ from h2]
  unfold untouched
  iintro ⟨HA, HT, H2, -⟩
  isplitl [HA]; · iexact HA
  isplitl [HT] <;> iassumption

set_option backward.isDefEq.respectTransparency.types false in
/-- The kernel's call. -/
def reg : Pipeline.PerCore.RegionSeg (pcfgs (F := F)) adm (dats m) () (defs₀ (F := F)) 𝒱₀ L lv 0 where
  win := winFacts0.to₀
  block_pos := block_pos0
  stage_whole := stage_whole0
  K := Fin 3 ⊕ Fin 3
  osem := osem
  ho := own_sems
  hbody := body_ok m
  hwaits := waits_ok m
  pre c := iprop(StableHlo.held (c : Thread nD τ) (Pipeline.ucRefs τ sig) (V1 m c) ∗ aside m c)
  post c := iprop(leaves m c ∗ ∃ W, owes (c : Thread nD τ) (0 : CellTallies nD τ sig Unit) W)
  X := carry m
  Y c := semVal (barCell c) 0
  Z := untouched m
  hentry c := by
    unfold aside carry
    iintro ⟨⟨Hh, ⟨%K, #HR⟩, Hl, Hw, HO⟩, Hs, #HL⟩
    ihave Hh := (entry_bufs m c) $$ Hh
    icases Hh with ⟨HA, HT, H2⟩
    imod (open_all m K c) $$ [Hl Hs] with Hop
    · isplitr; · iexact HR
      isplitl [Hl] <;> iassumption
    imodintro
    isplitl [HA]; · iexact HA
    isplitl [HT]; · iexact HT
    isplitl [HO]; · iapply (owes_in m c 0); iexact HO
    isplitr [H2]
    · isplitr; · iexists K; iexact HR
      isplitl [Hop]; · iexact Hop
      isplitl [Hw]; · iexact Hw
      iexact HL
    · iexact H2
  hin c := by
    rw [show (dats m 0 c).Φ 0 = atFirst m c from rfl, show Pipeline.scopedRest (pcfgs (F := F) 0).spec c = _ from scopedRest0_eq c]
    unfold atFirst accAll comAny
    iintro ⟨HX, -, Ha, Hc⟩
    isplitl [HX]; · iexact HX
    isplitl [Ha] <;> iassumption
  hout c := by
    rw [show (dats m 0 c).Φ (Fin.last _) = atLast c from rfl, show Pipeline.scopedRest (pcfgs (F := F) 0).spec c = _ from scopedRest0_eq c]
    unfold atLast accAll comAny Pipeline.ownSems0
    exact BI.Entails.refl _
  hexit c := by
    have hlast : (dats m 0 c).owesAt () (Fin.last (Pipeline.pinD (pcfgs (F := F)) adm c 0).N) ⊢ iprop(∃ W, owes (c : Thread nD τ) (0 : CellTallies nD τ sig Unit) W) := owes_last m c
    unfold leaves
    iintro ⟨HA, HO, HY, HZ⟩
    imodintro
    ihave HO := hlast $$ HO
    isplitr [HO]
    · isplitl [HA]; · iexact HA
      isplitl [HZ] <;> iassumption
    · iexact HO

/-! ## Dealing out the exchange at launch -/

/-- The token of every payment made in the exchange: per device and partner, a signal, an arrival, a departure. -/
abbrev paySem : Fin 3 × Fin 3 → SemLoc sig × Fin 3
  | (k, 0) => (.reg barS, k)
  | (k, 1) => (.dma (recvS k), 0)
  | (k, 2) => (.dma (sendS k), 0)
theorem paySem_inj : Function.Injective paySem := by decide
def allToks : Finset (GSem nD τ sig × ℕ × Fin 3) :=
  Finset.univ.map ⟨fun x : Dev nD × Fin 3 × Fin 3 => (((x.1 : Thread nD τ), (paySem x.2).1), 0, (paySem x.2).2), fun _ _ h =>
    Prod.ext (congrArg (fun t : GSem nD τ sig × ℕ × Fin 3 => t.1.1.1) h)
      (paySem_inj (Prod.ext (congrArg (fun t : GSem nD τ sig × ℕ × Fin 3 => t.1.2) h) (congrArg (fun t : GSem nD τ sig × ℕ × Fin 3 => t.2.2) h)))⟩

/-- The tokens, each with the device that pays. -/
theorem toks_dealt :
    (bigSep allToks fun x => (dutyTok ER x.1 x.2.1 x.2.2 : sProp 𝕄)) = bigSep Finset.univ fun c : Dev nD => bigSep Finset.univ fun k => payToks k c := by
  have hb (k : Fin 3) : (bigSep Finset.univ fun c : Dev nD => (dutyTok ER (barCell (peer k c)) 0 k : sProp 𝕄)) = bigSep Finset.univ fun c : Dev nD => dutyTok ER (barCell c) 0 k :=
    (bigSep_univ_equiv (swap k) (fun c : Dev nD => (dutyTok ER (barCell c) 0 k : sProp 𝕄))).symm
  have hr (k : Fin 3) : (bigSep Finset.univ fun c : Dev nD => (dutyTok ER (recvCell k (peer k c)) 0 0 : sProp 𝕄)) = bigSep Finset.univ fun c : Dev nD => dutyTok ER (recvCell k c) 0 0 :=
    (bigSep_univ_equiv (swap k) (fun c : Dev nD => (dutyTok ER (recvCell k c) 0 0 : sProp 𝕄))).symm
  unfold allToks payToks
  rw [bigSep_map]
  simp only [bigSep_univ_prod, bigSep_fin3, bigSep_sep', hb, hr]
  rfl

theorem flip (k : Fin 3) (c d : Dev nD) : c = peer k d ↔ d = peer k c :=
  ⟨fun h => by rw [h, peer_peer], fun h => by rw [h, peer_peer]⟩

theorem recv_ne_bar (k : Fin 3) (c d : Dev nD) : recvCell k c ≠ barCell d := fun h => by injection congrArg Prod.snd h

theorem at_bar (k : Fin 3) (c d : Dev nD) : tallyAt (barCell (peer k d)) () 1 (barCell c) () = if d = peer k c then 1 else 0 := by
  rw [tallyAt_apply]
  refine if_congr ?_ rfl rfl
  rw [← flip]
  exact ⟨fun h => congrArg (fun g : GSem nD τ sig => g.1.1) h.1, fun h => ⟨by rw [h], rfl⟩⟩

theorem at_recv (k l : Fin 3) (c d : Dev nD) :
    tallyAt (recvCell l (peer l d)) () N (recvCell k c) () = if l = k then (if d = peer k c then N else 0) else 0 := by
  rw [tallyAt_apply]
  by_cases hl : l = k
  · subst hl
    rw [if_pos rfl]
    refine if_congr ?_ rfl rfl
    rw [← flip]
    exact ⟨fun h => congrArg (fun g : GSem nD τ sig => g.1.1) h.1, fun h => ⟨by rw [h], rfl⟩⟩
  · rw [if_neg hl, if_neg]
    rintro ⟨h, -⟩
    injection congrArg Prod.snd h with h
    exact hl (Fin.ext (by have := congrArg Fin.val h; dsimp only at this; omega))

/-- Each device's barrier is owed one unit by each partner, -/
theorem owed_bar (d c : Dev nD) :
    O₀ d (barCell c) () = (if d = peer 2 c then 1 else 0) + (if d = peer 1 c then 1 else 0) + (if d = peer 0 c then 1 else 0) := by
  unfold O₀ owedR
  simp only [Pi.add_apply, Finsupp.add_apply, at_bar, tallyAt_ne_cell (fun h => recv_ne_bar _ _ _ h.symm), Finsupp.zero_apply]
  omega
/-- each receive semaphore a copy's credit by its partner. -/
theorem owed_recv (k : Fin 3) (d c : Dev nD) : O₀ d (recvCell k c) () = if d = peer k c then N else 0 := by
  unfold O₀ owedR
  simp only [Pi.add_apply, Finsupp.add_apply, tallyAt_ne_cell (recv_ne_bar _ _ _), Finsupp.zero_apply]
  rw [at_recv k 0, at_recv k 1, at_recv k 2]
  fin_cases k <;> simp

theorem launch_bar (c : Dev nD) :
    tallyOn (barCell c) (launchCredit (Pipeline.owing O₀) 0 (barCell c)) = (tallyAt (barCell c) () 3 : CellTallies nD τ sig Unit) := by
  unfold tallyAt
  refine congrArg _ (Finsupp.ext fun u => ?_)
  cases u
  rw [Pipeline.launchCredit_owing, Finsupp.single_eq_same, Finset.sum_congr rfl fun d _ => owed_bar d c]
  simp only [Finset.sum_add_distrib, Finset.sum_ite_eq', Finset.mem_univ, if_true]
theorem launch_recv (k : Fin 3) (c : Dev nD) :
    tallyOn (recvCell k c) (launchCredit (Pipeline.owing O₀) 0 (recvCell k c)) = (tallyAt (recvCell k c) () N : CellTallies nD τ sig Unit) := by
  unfold tallyAt
  refine congrArg _ (Finsupp.ext fun u => ?_)
  cases u
  rw [Pipeline.launchCredit_owing, Finsupp.single_eq_same, Finset.sum_congr rfl fun d _ => owed_recv k d c]
  simp only [Finset.sum_ite_eq', Finset.mem_univ, if_true]

/-- What all devices owe a device is the credit it waits with. -/
theorem creds (c : Dev nD) : (Pipeline.launchCred O₀ c : sProp 𝕄) ⊢ waits c := by
  have hd {s : Finset (SemLoc sig)} (q : DmaSem sig) (h : SemLoc.dma q ∈ s) {Φ : SemLoc sig → sProp 𝕄} :
      bigSep s Φ = iprop(Φ (.dma q) ∗ bigSep (s.erase (.dma q)) Φ) := BI.bigSep_erase h
  unfold Pipeline.launchCred waits
  rw [bigSep_univ_at _ (SemLoc.reg barS), launch_bar,
    hd (recvS 0) (by decide), hd (recvS 1) (by decide), hd (recvS 2) (by decide), launch_recv 0, launch_recv 1, launch_recv 2, bigSep_fin3]
  iintro ⟨Hb, H0, H1, H2, -⟩
  isplitl [Hb]; · iexact Hb
  isplitl [H0]; · iexact H0
  isplitl [H1] <;> iassumption

/-- A resource of all devices, kept by one of them. -/
def keptBy (d : Dev nD) (X : sProp 𝕄) (c : Dev nD) : sProp 𝕄 := if c = d then X else iprop(emp)
theorem bigSep_keptBy (d : Dev nD) (X : sProp 𝕄) : bigSep Finset.univ (keptBy d X) = X := by
  have h : bigSep (Finset.univ.erase d) (keptBy d X) = bigSep (Finset.univ.erase d) fun _ => (BI.emp : sProp 𝕄) :=
    bigSep_congr fun c hc => if_neg (Finset.ne_of_mem_erase hc)
  rw [bigSep_univ_at _ d, h, BI.bigSep_emp_const, show keptBy d X d = X from if_pos rfl]
  exact BI.equiv_iff.mp sep_emp

/-- What the exchange starts from. -/
def seed : URounds (GSem nD τ sig) (Fin 3) := launchOf barCells scCells allToks

theorem inj_cells : Function.Injective (Pipeline.PerCore.cellOf (nD := nD) (τ := τ) (Pipeline.pinD (pcfgs (F := F)) adm)) :=
  Pipeline.PerCore.cellOf_injective (Pipeline.pinD (pcfgs (F := F)) adm)
    (fun _ p => by obtain rfl : p = 0 := Subsingleton.elim _ _; exact Pipeline.specSemsDistinct_of_nodup _ (semsDistinct 0))
    (fun _ p p' h => absurd (Subsingleton.elim p p') h)

/-- The launch's ghost state: the staging semaphores' beside the exchange's. -/
def u₀ : UU :=
  (initOf (Pipeline.PerCore.cells (Pipeline.pinD (pcfgs (F := F)) adm) inj_cells) (Pipeline.PerCore.launchToks (Pipeline.pinD (pcfgs (F := F)) adm) inj_cells), seed)

theorem barrier_only (c : Dev nD) : (unscopedSems0 c : sProp 𝕄) = semVal (barCell c) 0 := by
  unfold unscopedSems0
  rw [show (Finset.univ.filter fun sm : SemLoc sig => ¬ sm.isScoped .tc) = {.reg barS} from by decide, bigSep_singleton]

/-- What a device starts the program with. -/
abbrev starts (c : Dev nD) : sProp 𝕄 := iprop(StableHlo.held (c : Thread nD τ) (Pipeline.ucRefs τ sig) (V0 m c) ∗ aside m c)

/-- The launch sets up every cell's invariant and deals out positions, tokens and credits. -/
theorem deal :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ keptBy 0 (BI.own (ER seed)) c)) ∗ levAts L lv)
      ⊢ (|={Set.univ}=> bigSep Finset.univ (starts m) : sProp 𝕄) := by
  -- a device's holdings other than the exchange's
  let own (c : Dev nD) : sProp 𝕄 := iprop(StableHlo.held (c : Thread nD τ) (Pipeline.ucRefs τ sig) (V0 m c) ∗ waits c ∗ owes (c : Thread nD τ) (O₀ c) ∅)
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ keptBy 0 (BI.own (ER seed)) c)
      ⊢ (iprop(own c ∗ (semVal (barCell c) 0 ∗ keptBy 0 (BI.own (ER seed)) c)) : sProp 𝕄) := by
    rw [show unscopedBufs c (fun b => m ((c : Thread nD τ).loc b)) = StableHlo.held (c : Thread nD τ) (Pipeline.ucRefs τ sig) (V0 m c)
      from Pipeline.unscopedBufs_held c (V0 m c), barrier_only]
    dsimp only [own]
    iintro ⟨Hh, Hs, HO, Hc, -, HG⟩
    ihave Hc := (creds (F := F) c) $$ Hc
    isplitl [Hh HO Hc]
    · isplitl [Hh]; · iexact Hh
      isplitl [Hc] <;> iassumption
    isplitl [Hs] <;> iassumption
  have hone (K : GSem nD τ sig → ℕ) (c : Dev nD) : iprop(records m K ∗ (linear c ∗ own c)) ⊢ starts m c := by
    dsimp only [own, starts]
    unfold aside
    iintro ⟨#HR, Hl, Hh, Hw, HO⟩
    isplitl [Hh]; · iexact Hh
    isplitr; · iexists K; iexact HR
    isplitl [Hl]; · iexact Hl
    isplitl [Hw]; · iexact Hw
    iexists ∅; iexact HO
  have hv : bigSep Finset.univ (fun c : Dev nD => (semVal (barCell c) 0 : sProp 𝕄)) ⊢ bigSep barCells (fun g => (semVal g 0 : sProp 𝕄)) :=
    BIBase.Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    BIBase.Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun k => openTok ER ((c : Thread nD τ), osem k)) :=
    BIBase.Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ keptBy 0 (BI.own (ER seed)) c))
      ⊢ (bigSep Finset.univ fun c : Dev nD => iprop(own c ∗ (semVal (barCell c) 0 ∗ keptBy 0 (BI.own (ER seed)) c)) : sProp 𝕄) from bigSep_mono fun c _ => hcore c) $$ H
  ihave H2 := bigSep_unpair $$ H'; icases H2 with ⟨HB, H3⟩
  ihave H4 := bigSep_unpair $$ H3; icases H4 with ⟨Hv, HG⟩
  ihave Hu := (BIBase.Entails.of_eq (bigSep_keptBy (F := F) 0 (BI.own (ER seed)))) $$ HG
  imod (Rounds.fund_launch ER (Rd m) disjoint_cells (fun g _ h => h) allToks) $$ [Hv Hu] with ⟨%K, -, #Hinv, #Hr, Hat, Hopen, Htok⟩
  · isplitl [Hv]
    · iapply hv $$ Hv
    · iexact Hu
  imodintro
  iapply (bigSep_with_persistent (R := records m K) (Φ := fun c => iprop(linear c ∗ own c)) fun c _ => hone K c)
  isplitr
  · unfold records
    isplitr; · iexact Hinv
    iexact Hr
  iapply bigSep_pair
  isplitr [HB]
  · unfold linear
    iapply bigSep_pair; isplitl [Hat]; · iapply hat $$ Hat
    iapply bigSep_pair; isplitl [Hopen]; · iapply hopen $$ Hopen
    iapply (BIBase.Entails.of_eq (toks_dealt (F := F))) $$ Htok
  · iexact HB

/-! ## The run -/

/-- The kernel leaves its two inputs as they were, -/
theorem final_x (c : Dev nD) : (dats m 0 c).arrAt (0 : Fin 3) (cfgD (F := F) c).N = m ((c : Thread nD τ).loc main_arg0) :=
  ((dat m c).arrAt_in (0 : Fin 3) rfl _).trans (V1_arg0 m c)
theorem final_dy (c : Dev nD) : (dats m 0 c).arrAt (1 : Fin 3) (cfgD (F := F) c).N = m ((c : Thread nD τ).loc main_arg1) :=
  ((dat m c).arrAt_in (1 : Fin 3) rfl _).trans (V1_arg1 m c)
theorem out_whole (c : Dev nD) : ((cfgD (F := F) c).win (2 : Fin 3)).WholeAt t0_3 :=
  ⟨(by decide : Window.flushOf grid0 true cc0_transform_2 t0_3 = true),
    (by decide : ∀ t : Fin grid0.N, Window.flushOf grid0 true cc0_transform_2 t = true → t = t0_3),
    fun a => by fin_cases a <;> exact ⟨rfl, rfl⟩⟩
/-- and its result holds the sums over all four devices. -/
theorem final_out (c : Dev nD) : (dats m 0 c).arrAt (2 : Fin 3) (cfgD (F := F) c).N = outAt m c :=
  (dat m c).arrAt_eq_of_after_last (2 : Fin 3) t0_3 (out_whole c) (outAt m c) (fun j => rfl) (arr_whole0 2)

theorem only_barrier : ∀ sm : SemLoc sig, sm.isScoped .tc = false → sm = .reg barS := by decide

/-- The program's two steps on a device. -/
abbrev steps (c : Dev nD) : List (Pipeline.PerCore.Seg (pcfgs (F := F)) adm (dats m) () (defs₀ (F := F)) 𝒱₀ L lv) :=
  [.host (seg0 m 𝒱₀ L lv (fun _ => aside m) c), .region (reg m)]

set_option backward.isDefEq.respectTransparency.types false in
/-- From any memory with every semaphore at zero, every run of the program ends; it leaves the three arguments as
    they were, the sums over the four devices in the result, and every semaphore at zero. -/
theorem run_main : θ_run (defs (F := F)) (onTc (τ := τ) (main (F := F))) ⟨m, fun _ => 0, ρ⟩
    (fun r => (∀ c : Dev nD, r.2.mem ((c : Thread nD τ).loc main_v6) = outAt m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.PerCore.θ_run_regions_kit_sems (pcfgs (F := F)) adm (dats m) () inj_cells EP (defs₀ (F := F)) 𝒱₀ L lv m ρ main (steps m)
    (fun c Q => by
      rewrite [main_chain c, Pipeline.PerCore.Seg.run_eq_chain,
        show (steps m c).map Pipeline.PerCore.Seg.prog = [StableHlo.seq (hostOps0 c), Prog.lift (.customCall (Pipeline.entry 0) ())] from rfl]
      dsimp (config := {failIfUnchanged := false}) only
      exact BI.Entails.refl _)
    (fun c => by simp only [steps, Pipeline.PerCore.Seg.pipes_host, Pipeline.PerCore.Seg.pipes_region, Pipeline.PerCore.Seg.pipes_nil]; decide)
    (O₀ := O₀) (hL := L_of_ne) (G := keptBy 0 (BI.own (ER seed))) (u₀ := u₀ (F := F))
    (hu₀ := by
      unfold u₀
      iintro Hu
      ihave H := (ownU_pair _ _) $$ Hu
      icases H with ⟨HP, HX⟩
      imodintro
      isplitl [HP]; · iexact HP
      rw [bigSep_keptBy]; iexact HX)
    (T₀ := starts m) (Tₙ := leaves m)
    (hch := fun c => ⟨BI.Entails.refl _, BI.Entails.refl _, BI.Entails.refl _⟩)
    (hinit := deal m ρ)
    (QY := fun c s => (∀ w : Fin 3, s.mem ((spec0 w).arr.view.loc (c : Thread nD τ)) = (dats m 0 c).arrAt w (cfgD (F := F) c).N)
      ∧ s.mem ((c : Thread nD τ).loc main_arg2) = V1 m c main_arg2 ∧ s.sem (barCell c) = 0)
    (hfin := fun c s' => by
      unfold leaves untouched
      iintro ⟨⟨HA, H2, Hb⟩, HSI⟩
      icombine HSI H2 gives %h2
      icombine HSI Hb gives %hb
      ihave H := (Pipeline.PerCore.arrays_read (pcfgs (F := F)) adm (dats m) (p := 0) arr_whole0 c (share_full m c) _ s') $$ [HA HSI]
      · isplitl [HA] <;> iassumption
      icases H with ⟨%ha, HSI⟩
      imodintro
      isplitr
      · ipureintro
        exact ⟨ha, Buf.eq_of_forall_mem_univ h2, by simpa using hb⟩
      iexact HSI)
    (hQ := fun s h hs => ⟨fun c => ⟨((h c).1 2).trans (final_out m c), ((h c).1 0).trans (final_x m c), ((h c).1 1).trans (final_dy m c),
        (h c).2.1.trans (V1_arg2 m c)⟩,
      sem_eq_zero hs fun c sm hsm => by
        obtain rfl := only_barrier sm hsm
        exact (h c).2.2⟩)

end Cert.NormGrad

end
-- ==== Proof.Same.lean ====
/-
The kernel as it is given and the kernel as it is read for its value are one program: each table and
each function of the one is the other's.
-/
module

public import proofs.«01_k».proof.Proof.Gen.Kernel
public import proofs.«01_k».proof.Proof.Run

@[expose] public section

noncomputable section

namespace Cert.NormGrad
open Idealize.ShloMosaic Idealize.SL.Sem

attribute [local instance] Cert.Kernel.Gen.facts Cert.KernelIdeal.Gen.facts

variable {F : FTy → Type} [FloatOps F]

/-- The two programs have one body. -/
theorem body_same : Cert.Kernel.cc0__body (F := F) = Cert.KernelIdeal.cc0__body (F := F) := rfl

/-- The two programs have one table of bodies. -/
theorem bodies_same : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Val := Elt F) (Λ := Cert.KernelIdeal.Λ₀)) ?_
  funext l a
  match l, a with
  | 0, (t, s) => rfl

/-- The two programs have one table of labels. -/
theorem defs_same : Cert.Kernel.defs (F := F) = Cert.KernelIdeal.defs (F := F) :=
  congrArg (Pipeline.defs (Cert.KernelIdeal.pcfgs (F := F))) bodies_same

/-- The two programs have one main function. -/
theorem main_same : Cert.Kernel.main (F := F) = Cert.KernelIdeal.main (F := F) := rfl

/-- The kernel as it is given ends with its arguments unchanged and every semaphore zero. -/
theorem run_given (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩
      (fun r => (∀ c : Dev Cert.Kernel.nD,
        r.2.mem (c.tc.loc Cert.Kernel.main_arg0) = m (c.tc.loc Cert.Kernel.main_arg0)
        ∧ r.2.mem (c.tc.loc Cert.Kernel.main_arg1) = m (c.tc.loc Cert.Kernel.main_arg1)
        ∧ r.2.mem (c.tc.loc Cert.Kernel.main_arg2) = m (c.tc.loc Cert.Kernel.main_arg2)) ∧ r.2.sem = fun _ => 0) := by
  rw [defs_same, main_same]
  exact (θ_run (Cert.KernelIdeal.defs (F := F)) _ _).mono (fun _ h => ⟨fun c => (h.1 c).2, h.2⟩) (run_main (F := F) m ρ)
end Cert.NormGrad

end
-- ==== Proof.Row.lean ====
/-
One row of the input, normalised two ways over the extended reals: as the kernel writes it and as the
reference writes it. They agree on a row of finite numbers.
-/
module

public import Idealize.ShloMosaic.Lib.Pointwise

@[expose] public section

noncomputable section

namespace Cert.NormGrad

open Idealize.ShloMosaic

/-! ## The constants -/

/-- The kernel's reciprocal of the row length is 1/2048 exactly. -/
theorem word_inv : Ideal.ofBits .f32 0x3A000000#32 = ((1 / 2048 : ℝ) : EReal) := by
  simp [Ideal.ofBits, Ideal.ieee, -EReal.coe_mul]; norm_num

/-- The reference's row length is 2048. -/
theorem word_len : Ideal.ofBits .f32 0x45000000#32 = ((2048 : ℝ) : EReal) := by
  simp [Ideal.ofBits, Ideal.ieee, -EReal.coe_mul]; norm_num

/-- The number added to the variance, the word the kernel and the reference both hold. -/
theorem word_eps : Ideal.ofBits .f32 0x3727C5AC#32 = ((10995116 / 2 ^ 40 : ℝ) : EReal) := by
  simp [Ideal.ofBits, Ideal.ieee, -EReal.coe_mul]; norm_num

/-! ## Arithmetic that stays real -/

/-- A sum of reals is the sum in the reals. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A quotient of reals by a real that is not zero is the quotient in the reals. -/
theorem div_real (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The root of a positive real. -/
theorem sqrt_real {a : ℝ} (ha : 0 < a) : Ideal.sqrt (a : EReal) = (Real.sqrt a : EReal) :=
  if_neg (not_lt.2 ha.le)

/-- The reciprocal root of a positive real. -/
theorem rsqrt_real {a : ℝ} (ha : 0 < a) : Ideal.rsqrt (a : EReal) = (((Real.sqrt a)⁻¹ : ℝ) : EReal) :=
  (if_neg (not_lt.2 ha.le)).trans (if_neg ha.ne')

/-- The mean of the squares less the square of the mean is the mean of the squared distances from the mean. -/
theorem variance_two_ways (w : Fin 2048 → ℝ) :
    (∑ l, w l * w l) * (1 / 2048) - (∑ l, w l) * (1 / 2048) * ((∑ l, w l) * (1 / 2048))
      = (∑ l, (w l - (∑ j, w j) / 2048) * (w l - (∑ j, w j) / 2048)) / 2048 := by
  generalize hs : ∑ j, w j = s
  have h : ∑ l, (w l - s / 2048) * (w l - s / 2048) = (∑ l, w l * w l) - 2 * (s / 2048) * s + 2048 * (s / 2048 * (s / 2048)) := by
    have e : ∀ l, (w l - s / 2048) * (w l - s / 2048) = w l * w l - 2 * (s / 2048) * w l + s / 2048 * (s / 2048) := fun l => by ring
    simp only [e, Finset.sum_add_distrib, Finset.sum_sub_distrib, ← Finset.mul_sum, hs]
    simp only [Finset.sum_const, Finset.card_univ, Fintype.card_fin, nsmul_eq_mul]
    push_cast; ring
  rw [h]; ring

/-! ## The two normalised rows -/

/-- The kernel's normalised entry `k` of the row `v`. -/
def normK (v : Fin 2048 → EReal) (k : Fin 2048) : EReal :=
  Ideal.rsqrt ((∑ l, v l * v l) * Ideal.ofBits .f32 0x3A000000#32
      - (∑ l, v l) * Ideal.ofBits .f32 0x3A000000#32 * ((∑ l, v l) * Ideal.ofBits .f32 0x3A000000#32)
      + Ideal.ofBits .f32 0x3727C5AC#32) * v k
    - Ideal.rsqrt ((∑ l, v l * v l) * Ideal.ofBits .f32 0x3A000000#32
      - (∑ l, v l) * Ideal.ofBits .f32 0x3A000000#32 * ((∑ l, v l) * Ideal.ofBits .f32 0x3A000000#32)
      + Ideal.ofBits .f32 0x3727C5AC#32) * ((∑ l, v l) * Ideal.ofBits .f32 0x3A000000#32)

/-- The reference's mean of the row `v`. -/
def meanR (v : Fin 2048 → EReal) : EReal := Ideal.div (∑ l, v l) (Ideal.ofBits .f32 0x45000000#32)

/-- The reference's normalised entry `k` of the row `v`. -/
def normR (v : Fin 2048 → EReal) (k : Fin 2048) : EReal :=
  (v k - meanR v) * Ideal.div 1 (Ideal.sqrt
    (Ideal.div (∑ l, (v l - meanR v) * (v l - meanR v)) (Ideal.ofBits .f32 0x45000000#32) + Ideal.ofBits .f32 0x3727C5AC#32))

/-- On a row of finite numbers the two agree. -/
theorem norm_same (v : Fin 2048 → EReal) (hv : ∀ l, v l ≠ ⊤ ∧ v l ≠ ⊥) (k : Fin 2048) : normK v k = normR v k := by
  obtain ⟨w, rfl⟩ : ∃ w : Fin 2048 → ℝ, v = fun l => (w l : EReal) :=
    ⟨fun l => (v l).toReal, funext fun l => (EReal.coe_toReal (hv l).1 (hv l).2).symm⟩
  obtain ⟨e, he, ew⟩ : ∃ e : ℝ, 0 < e ∧ Ideal.ofBits .f32 0x3727C5AC#32 = (e : EReal) := ⟨_, by norm_num, word_eps⟩
  have hm : meanR (fun l => (w l : EReal)) = ((∑ l, w l) / 2048 : ℝ) := by
    rw [meanR, word_len, sum_real, div_real _ (by norm_num)]
  have hq : ∑ l, ((w l : EReal) - meanR (fun l => (w l : EReal))) * ((w l : EReal) - meanR (fun l => (w l : EReal)))
      = ((∑ l, (w l - (∑ j, w j) / 2048) * (w l - (∑ j, w j) / 2048) : ℝ) : EReal) := by
    rw [hm, ← sum_real]
    simp only [EReal.coe_mul, EReal.coe_sub]
  have hs : ∑ l, (w l : EReal) * (w l : EReal) = ((∑ l, w l * w l : ℝ) : EReal) := by
    rw [← sum_real]
    simp only [EReal.coe_mul]
  have hpos : 0 < (∑ l, (w l - (∑ j, w j) / 2048) * (w l - (∑ j, w j) / 2048)) / 2048 + e :=
    add_pos_of_nonneg_of_pos (div_nonneg (Finset.sum_nonneg fun l _ => mul_self_nonneg _) (by norm_num)) he
  have hk : (∑ l, (w l : EReal) * (w l : EReal)) * Ideal.ofBits .f32 0x3A000000#32
      - (∑ l, (w l : EReal)) * Ideal.ofBits .f32 0x3A000000#32 * ((∑ l, (w l : EReal)) * Ideal.ofBits .f32 0x3A000000#32)
      + Ideal.ofBits .f32 0x3727C5AC#32
      = (((∑ l, (w l - (∑ j, w j) / 2048) * (w l - (∑ j, w j) / 2048)) / 2048 + e : ℝ) : EReal) := by
    rw [hs, word_inv, sum_real, ew, ← variance_two_ways]
    simp only [EReal.coe_mul, EReal.coe_sub, EReal.coe_add]
  rw [normK, normR, hk, hq, hm, word_inv, word_len, sum_real, ew, div_real _ (by norm_num), ← EReal.coe_add, sqrt_real hpos,
    rsqrt_real hpos, ← EReal.coe_one, div_real _ (Real.sqrt_ne_zero'.2 hpos), ← EReal.coe_mul, ← EReal.coe_mul, ← EReal.coe_mul, ← EReal.coe_sub,
    ← EReal.coe_sub, ← EReal.coe_mul]
  refine congrArg Real.toEReal ?_
  generalize Real.sqrt _ = q
  generalize ∑ l, w l = s
  ring

end Cert.NormGrad

end
-- ==== Proof.Value.lean ====
/-
The kernel's sums and the reference's, read entry by entry over the extended reals.
-/
module

public import proofs.«01_k».proof.Proof.Protocol
public import proofs.«01_k».proof.Proof.Gen.ReferenceIdeal.Run
public import proofs.«01_k».proof.Proof.Row

@[expose] public section

noncomputable section

namespace Cert.NormGrad

open Cert.KernelIdeal Cert.KernelIdeal.Gen
open Idealize.ShloMosaic
open Idealize.ShloMosaic.TcCoe

/-! ## What row `r` adds to entry `(b, k)` -/

/-- Row `r`'s part of entry `(b, k)`, the rows normalised by `N`: row 0 of the result sums the second array against
    the normalised first, row 1 sums the second array alone. -/
def part (N : (Fin 2048 → EReal) → Fin 2048 → EReal) {n : ℕ} (x d : (⟨2, ![n, 2048]⟩ : Shape).Idx → EReal)
    (b : Fin 2) (k : Fin 2048) (r : Fin n) : EReal :=
  if b = 0 then d (ix2 r k) * N (fun l => x (ix2 r l)) k else d (ix2 r k)

/-- All the rows' parts. -/
def total (N : (Fin 2048 → EReal) → Fin 2048 → EReal) (x d : (⟨2, ![8192, 2048]⟩ : Shape).Idx → EReal) :
    S2x2048.Idx → EReal := fun j => ∑ r, part N x d (j 0) (j 1) r

/-- With finite rows it does not matter which way they are normalised. -/
theorem total_same (x d : (⟨2, ![8192, 2048]⟩ : Shape).Idx → EReal) (hx : ∀ j, x j ≠ ⊤ ∧ x j ≠ ⊥) :
    total normK x d = total normR x d := by
  have h (b : Fin 2) (k : Fin 2048) (r : Fin 8192) : part normK x d b k r = part normR x d b k r := by
    unfold part
    rw [norm_same (fun l => x (ix2 r l)) fun l => hx _]
  exact funext fun j => Finset.sum_congr rfl fun r _ => h (j 0) (j 1) r

/-! ## The kernel -/

/-- What one block adds to the running sums. -/
theorem pay_parts (x d : Vec Ideal S512x2048 .f32) (b : Fin 2) (k : Fin 2048) :
    k0_pay2 x d (ix2 b k) = ∑ r, part normK x d b k r := by
  fin_cases b <;>
    (pointwise [k0_pay2, dot_S512x2048_S2048x1_S512x1_1_0_0_1_n_n, dot_S1x512_S512x2048_S1x2048_1_0_0_1_n_n]
     rfl)

/-- There are four devices. -/
theorem dev_lt (c : Dev nD) : c.val < 4 := c.isLt

/-- The first block's sums are stored as they are. -/
theorem first_parts (x d : Vec Ideal S512x2048 .f32) (b : Fin 2) (k : Fin 2048) :
    k0_pay3 x d (ix2 b k) = ∑ r, part normK x d b k r :=
  (congrFun (shapeCast_self (k0_pay2 x d) shapeCasts_S2x2048_S2x2048) (ix2 b k)).trans (pay_parts x d b k)

/-- A later block's sums are added to those already stored. -/
theorem next_parts (x d : Vec Ideal S512x2048 .f32) (a : Vec Ideal S2x2048 .f32) (b : Fin 2) (k : Fin 2048) :
    k0_pay4 x d a (ix2 b k) = a (ix2 b k) + ∑ r, part normK x d b k r :=
  (congrFun (shapeCast_self (addf a (k0_pay2 x d)) shapeCasts_S2x2048_S2x2048) (ix2 b k)).trans
    (congrArg (fun e : EReal => a (ix2 b k) + e) (pay_parts x d b k))

variable (m : (ℓ : Loc nD τ sig) → Buf (Elt Ideal) ℓ)

/-- Row `r` of block `4 (c % 2) + t` is row `512 (4 (c % 2) + t) + r` of the rows device `c` holds. -/
theorem block_row (c : Dev nD) (t : Fin 4) {ix : Fin 2 → ℕ} (h : ix = ![c.val % 2 * 4 + (grid0.coords t 0).val, 0]) (r : Fin 512) :
    ix 0 * 512 + 1 * r.val = 512 * (c.val % 2 * 4 + t.val) + r.val := by
  subst h
  have ht : (grid0.coords t 0).val = t.val := by revert t; decide
  show (c.val % 2 * 4 + (grid0.coords t 0).val) * 512 + 1 * r.val = 512 * (c.val % 2 * 4 + t.val) + r.val
  rw [ht]; omega

/-- A block has every column. -/
theorem block_col (c : Dev nD) (t : Fin 4) {ix : Fin 2 → ℕ} (h : ix = ![c.val % 2 * 4 + (grid0.coords t 0).val, 0]) (k : Fin 2048) :
    ix 1 * 2048 + 1 * k.val = k.val := by
  subst h
  show 0 * 2048 + 1 * k.val = k.val
  omega

/-- An entry of the first input's block, in the rows device `c` holds. -/
theorem xblk_at (c : Dev nD) (t : Fin 4) (r : Fin 512) (k : Fin 2048) :
    xblk m c t (ix2 r k) = m ((c : Thread nD τ).loc main_arg0) (ix2 (n0 := 4096) ⟨512 * (c.val % 2 * 4 + t.val) + r.val, by omega⟩ k) :=
  congrArg (m ((c : Thread nD τ).loc main_arg0)) (Shape.idx_ext₂ (block_row c t (ix_x (F := Ideal) c _) r) (block_col c t (ix_x (F := Ideal) c _) k))

/-- The same of the second input. -/
theorem dblk_at (c : Dev nD) (t : Fin 4) (r : Fin 512) (k : Fin 2048) :
    dblk m c t (ix2 r k) = m ((c : Thread nD τ).loc main_arg1) (ix2 (n0 := 4096) ⟨512 * (c.val % 2 * 4 + t.val) + r.val, by omega⟩ k) :=
  congrArg (m ((c : Thread nD τ).loc main_arg1)) (Shape.idx_ext₂ (block_row c t (ix_dy (F := Ideal) c _) r) (block_col c t (ix_dy (F := Ideal) c _) k))

/-- A device's final sums are its four blocks' parts. -/
theorem accF_parts (c : Dev nD) (b : Fin 2) (k : Fin 2048) :
    accF m c (ix2 b k) = ∑ t : Fin 4, ∑ r, part normK (xblk m c t) (dblk m c t) b k r := by
  rw [accF, next_parts, acc2, next_parts, acc1, next_parts, acc0, first_parts, Fin.sum_univ_four]
  rfl

/-- A device's sums and its three partners' are all four devices' sums. -/
theorem four_devices (A : Dev nD → EReal) (c : Dev nD) :
    (A c + A (peer 0 c)) + (A (peer 1 c) + A (peer 2 c)) = ∑ e : Fin 4, A e := by
  have h : ∀ e : Dev nD, ({e, peer 0 e, peer 1 e, peer 2 e} : Multiset (Dev nD)) = Finset.univ.val := by decide
  have := congrArg (fun s => (s.map A).sum) (h c)
  rw [Fin.sum_univ_four]
  simpa [add_assoc] using this

/-- The 8192 rows are the 512 rows of the four blocks of the four devices. -/
theorem all_rows (g : Fin 8192 → EReal) :
    ∑ i, g i = ∑ c : Fin 4, ∑ t : Fin 4, ∑ r : Fin 512, g ⟨512 * (4 * c.val + t.val) + r.val, by omega⟩ := by
  rw [← Equiv.sum_comp (((finProdFinEquiv (m := 4) (n := 4)).prodCongr (Equiv.refl (Fin 512))).trans
    (finProdFinEquiv (m := 4 * 4) (n := 512))) g, Fintype.sum_prod_type, Fintype.sum_prod_type]
  refine Finset.sum_congr rfl fun c _ => Finset.sum_congr rfl fun t _ => Finset.sum_congr rfl fun r _ => congrArg g (Fin.ext ?_)
  show r.val + 512 * (t.val + 4 * c.val) = 512 * (4 * c.val + t.val) + r.val
  omega

/-! ## The arrays the devices' blocks are cut from -/

/-- Device `c` holds the rows from `4096 (c / 2)` on. -/
theorem held_at (c : Dev nD) (X : (⟨2, ![8192, 2048]⟩ : Shape).Idx → EReal) (r : Fin 4096) (k : Fin 2048) :
    Layout.blockN ⟨2, ![4096, 2048]⟩ ⟨2, ![8192, 2048]⟩ (Layout.meshBlock [2, 2] ![[0], []] c) X (by decide) (ix2 r k)
      = X (ix2 ⟨4096 * (c.val / 2) + r.val, by have := dev_lt c; omega⟩ k) := by
  show X _ = X _
  refine congrArg X (Shape.idx_ext₂ ?_ ?_)
  · have h : ∀ e : Fin 4, Layout.meshLin [2, 2] e.val [0] = e.val / 2 := by decide
    show Layout.meshLin [2, 2] c.val [0] * 4096 + r.val = 4096 * (c.val / 2) + r.val
    rw [h c]; omega
  · show Layout.meshLin [2, 2] c.val [] * 2048 + k.val = k.val
    simp [Layout.meshLin]

variable {m} {X D : (⟨2, ![8192, 2048]⟩ : Shape).Idx → EReal}

/-- Every device writes out the parts of all the rows. -/
theorem out_total
    (hX : ∀ c : Dev nD, m ((c : Thread nD τ).loc main_arg0) = Layout.blockN ⟨2, ![4096, 2048]⟩ ⟨2, ![8192, 2048]⟩ (Layout.meshBlock [2, 2] ![[0], []] c) X)
    (hD : ∀ c : Dev nD, m ((c : Thread nD τ).loc main_arg1) = Layout.blockN ⟨2, ![4096, 2048]⟩ ⟨2, ![8192, 2048]⟩ (Layout.meshBlock [2, 2] ![[0], []] c) D)
    (c : Dev nD) : outAt m c = total normK X D := by
  funext j
  obtain ⟨b, k, rfl⟩ : ∃ (b : Fin 2) (k : Fin 2048), j = ix2 b k := ⟨j 0, j 1, eq_ix2 j⟩
  have hrow (e : Dev nD) (t : Fin 4) (r : Fin 512) : part normK (xblk m e t) (dblk m e t) b k r
      = part normK X D b k ⟨512 * (4 * e.val + t.val) + r.val, by have := dev_lt e; omega⟩ := by
    have hr : 4096 * (e.val / 2) + (512 * (e.val % 2 * 4 + t.val) + r.val) = 512 * (4 * e.val + t.val) + r.val := by omega
    have hx (l : Fin 2048) : xblk m e t (ix2 r l) = X (ix2 ⟨512 * (4 * e.val + t.val) + r.val, by have := dev_lt e; omega⟩ l) :=
      (xblk_at m e t r l).trans ((congrFun (hX e) _).trans ((held_at e X _ l).trans (congrArg (fun i => X (ix2 i l)) (Fin.ext hr))))
    have hd : dblk m e t (ix2 r k) = D (ix2 ⟨512 * (4 * e.val + t.val) + r.val, by have := dev_lt e; omega⟩ k) :=
      (dblk_at m e t r k).trans ((congrFun (hD e) _).trans ((held_at e D _ k).trans (congrArg (fun i => D (ix2 i k)) (Fin.ext hr))))
    unfold part
    rw [hd, show (fun l => xblk m e t (ix2 r l)) = fun l => X (ix2 _ l) from funext hx]
  refine (four_devices (fun e => accF m e (ix2 b k)) c).trans ?_
  refine Eq.trans ?_ (all_rows (part normK X D b k)).symm
  exact Finset.sum_congr rfl fun e _ => (accF_parts m e b k).trans
    (Finset.sum_congr rfl fun t _ => Finset.sum_congr rfl fun r _ => hrow e t r)

/-! ## The reference -/

/-- The row length less no degrees of freedom is the row length. -/
theorem len_less : Ideal.ofBits .f32 0x45000000#32 - FloatOps.sitofp (F := Ideal) .f32 (0#32) = Ideal.ofBits .f32 0x45000000#32 := by
  show Ideal.ofBits .f32 0x45000000#32 - (((0#32 : BitVec 32).toInt : ℝ) : EReal) = _
  simp

/-- The row length is positive. -/
theorem len_pos : 0 < Ideal.ofBits .f32 0x45000000#32 := by
  rw [word_len]; exact EReal.coe_pos.2 (by norm_num)

open Idealize.SL.Sem in
/-- The reference ends with the parts of all the rows, and its arguments as they were. -/
theorem run_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      ∀ c : Dev Cert.ReferenceIdeal.nD,
      r.2.mem ((c.tc : Thread Cert.ReferenceIdeal.nD Cert.ReferenceIdeal.τ).loc Cert.ReferenceIdeal.main_v19)
        = total normR (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) := by
  refine (θ_run (Cert.ReferenceIdeal.defs (F := Ideal)) _ _).mono (fun r h c => ⟨(h c).1.trans ?_, (h c).2⟩)
    (Cert.ReferenceIdeal.Value.run (F := Ideal) m g)
  clear h r
  generalize m ((Dev.tc c).loc Cert.ReferenceIdeal.main_arg0) = x
  generalize m ((Dev.tc c).loc Cert.ReferenceIdeal.main_arg1) = d
  funext j
  obtain ⟨b, k, rfl⟩ : ∃ (b : Fin 2) (k : Fin 2048), j = ix2 b k := ⟨j 0, j 1, eq_ix2 j⟩
  fin_cases b
  · show _ = ∑ r : Fin 8192, part normR x d 0 k r
    pointwise []
    rw [len_less]
    refine Finset.sum_congr rfl fun r _ => ?_
    rw [if_pos len_pos]
    rfl
  · show _ = ∑ r : Fin 8192, part normR x d 1 k r
    pointwise []
    rfl

end Cert.NormGrad

end
-- ==== Proof.lean ====
/-
The proof of `Cert.Claim`, from the run of the kernel and the run of the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Same
public import proofs.«01_k».proof.Proof.Value

@[expose] public section

noncomputable section

namespace Cert.Proof

open Idealize.ShloMosaic Idealize.SL.Sem

attribute [local instance] Cert.Kernel.Gen.facts Cert.KernelIdeal.Gen.facts Cert.ReferenceIdeal.Gen.facts

/-- What the predicate on a kernel device's block says of shapes. -/
@[implicit_reducible] def facts_block : Cert.Pre_finite_x_KernelIdeal.Facts := ⟨by decide⟩

/-- What the predicate on the reference's array says of shapes. -/
@[implicit_reducible] def facts_array : Cert.Pre_finite_x_ReferenceIdeal.Facts := ⟨by decide⟩

attribute [local instance] facts_block facts_array

/-- The kernel as it is given keeps its arguments and ends with every semaphore zero. -/
theorem frame_kernel : Cert.quiescent_Kernel :=
  fun m g _ => Cert.NormGrad.run_given (F := Bits) m g

/-- So does the kernel read over the extended reals. -/
theorem frame_ideal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run (Cert.KernelIdeal.defs (F := Ideal)) _ _).mono (fun _ h => ⟨fun c => (h.1 c).2, h.2⟩) (Cert.NormGrad.run_main (F := Ideal) m g)

/-- The reference keeps its arguments; it has no semaphore. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run (Cert.ReferenceIdeal.defs (F := Ideal)) _ _).mono (fun r h => ⟨fun c => (h c).2, sem_eq_zero_of_no_sems rfl r.2⟩)
    (Cert.ReferenceIdeal.Value.run (F := Ideal) m g)

/-- A number whose size is below infinity is finite. -/
theorem finite_of_lt (e : EReal) (h : Ideal.cmp .olt (max e (-e)) (Ideal.ofBits .f32 0x7F800000#32) = 1#1) : e ≠ ⊤ ∧ e ≠ ⊥ := by
  have hi : Ideal.ofBits .f32 0x7F800000#32 = ⊤ := by simp [Ideal.ofBits, Ideal.ieee]
  rw [hi] at h
  constructor <;> rintro rfl <;> simp [Ideal.cmp] at h

/-- The precondition says that every entry of a device's block of the first array is finite. -/
theorem finite_block (m : (ℓ : Loc Cert.KernelIdeal.nD Cert.KernelIdeal.τ Cert.KernelIdeal.sig) → Buf (Elt Ideal) ℓ)
    (h : Cert.Pre_KernelIdeal_finite_x_KernelIdeal m) (c : Dev Cert.KernelIdeal.nD) (j : Cert.KernelIdeal.S4096x2048.Idx) :
    Ne (α := EReal) (m ((c.tc : Thread Cert.KernelIdeal.nD Cert.KernelIdeal.τ).loc Cert.KernelIdeal.main_arg0) j) ⊤
      ∧ Ne (α := EReal) (m ((c.tc : Thread Cert.KernelIdeal.nD Cert.KernelIdeal.τ).loc Cert.KernelIdeal.main_arg0) j) ⊥ :=
  finite_of_lt _ (congrFun (h c) j)

/-- The blocks cover the array, so every entry of it is finite. -/
theorem finite_array (m : (ℓ : Loc Cert.KernelIdeal.nD Cert.KernelIdeal.τ Cert.KernelIdeal.sig) → Buf (Elt Ideal) ℓ)
    (h : Cert.Pre_KernelIdeal_finite_x_KernelIdeal m) (X : (⟨2, ![8192, 2048]⟩ : Shape).Idx → EReal)
    (hX : ∀ c : Dev Cert.KernelIdeal.nD, m ((c.tc : Thread Cert.KernelIdeal.nD Cert.KernelIdeal.τ).loc Cert.KernelIdeal.main_arg0)
      = Layout.blockN ⟨2, ![4096, 2048]⟩ ⟨2, ![8192, 2048]⟩ (Layout.meshBlock [2, 2] ![[0], []] c) X)
    (j : (⟨2, ![8192, 2048]⟩ : Shape).Idx) : X j ≠ ⊤ ∧ X j ≠ ⊥ := by
  obtain ⟨r, k, rfl⟩ : ∃ (r : Fin 8192) (k : Fin 2048), j = ix2 r k := ⟨j 0, j 1, eq_ix2 j⟩
  have hc : 2 * (r.val / 4096) < 4 := by omega
  have e := (congrFun (hX ⟨2 * (r.val / 4096), hc⟩) (ix2 (n0 := 4096) ⟨r.val % 4096, by omega⟩ k)).trans
    (Cert.NormGrad.held_at ⟨2 * (r.val / 4096), hc⟩ X ⟨r.val % 4096, by omega⟩ k)
  have hr : X (ix2 ⟨4096 * (2 * (r.val / 4096) / 2) + r.val % 4096, by omega⟩ k) = X (ix2 r k) :=
    congrArg (fun i => X (ix2 i k)) (Fin.ext (by show 4096 * (2 * (r.val / 4096) / 2) + r.val % 4096 = r.val; omega))
  have f := finite_block m h ⟨2 * (r.val / 4096), hc⟩ (ix2 (n0 := 4096) ⟨r.val % 4096, by omega⟩ k)
  rw [e] at f
  exact hr ▸ f

/-- With a finite first array, every device of the kernel ends with what the reference ends with. -/
theorem same_value : Cert.algebraic_KernelIdeal_ReferenceIdeal_pre_finite_x_KernelIdeal := by
  intro m g m' g' hp hm
  have ho (c : Dev Cert.KernelIdeal.nD) := (Cert.NormGrad.out_total (fun c => (hm c).1) (fun c => (hm c).2.1) c).trans
    (Cert.NormGrad.total_same _ _ (finite_array m hp _ fun c => (hm c).1))
  refine ⟨_, (θ_run (Cert.KernelIdeal.defs (F := Ideal)) _ _).mono (fun r h c => ⟨(h.1 c).1.trans (ho c), (h.1 c).2⟩)
    (Cert.NormGrad.run_main (F := Ideal) m g), ?_⟩
  exact (θ_run (Cert.ReferenceIdeal.defs (F := Ideal)) _ _).mono (fun r h => h 0) (Cert.NormGrad.run_reference m' g')

/-- Everything this certificate claims. -/
theorem claim : Cert.Claim :=
  ⟨Cert.Kernel.Gen.facts, Cert.KernelIdeal.Gen.facts, Cert.ReferenceIdeal.Gen.facts, facts_block, facts_array,
    frame_kernel, fun m g _ => frame_ideal m g, fun m g _ => frame_ideal m g,
    fun m g _ => frame_reference m g, fun m g _ => frame_reference m g, trivial, same_value⟩

end Cert.Proof

end
